-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF2177617#32 ⊥

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2048x512 : Shape := ⟨2, ![2048, 512]⟩
abbrev S2048 : Shape := ⟨1, ![2048]⟩
abbrev S512 : Shape := ⟨1, ![512]⟩
abbrev S1536x512 : Shape := ⟨2, ![1536, 512]⟩
abbrev S1536 : Shape := ⟨1, ![1536]⟩
abbrev S512x512 : Shape := ⟨2, ![512, 512]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_

variable [Facts]

def fn_part1 {F : FTy → Type} [FloatOps F] (main_arg4 : FVec F S1536x512 .f32) (main_arg5 : FVec F S1536 .f32) (main_v5 : IVec S_ 1) (main_v14 : IVec S_ 1) (main_v15 : FVec F S512 .f32) (main_cst_5 : FVec F S_ .f32) : IVec S_ 1 :=
  let main_v16 : FVec F S512 .f32 := broadcastInDim S512 ![] bcast_S_S512 main_cst_5
  let main_v17 : IVec S512 1 := cmpf .olt main_v15 main_v16
  let main_c_6 : IVec S_ 1 := constantI S_ 1 1#1
  let main_v18 : IVec S_ 1 := (fun x v => Host.reduce IntOp.andi x v reducesTo_S512_S_d0 h_S_) main_v17 main_c_6
  let main_v19 : IVec S_ 1 := andi main_v14 main_v18
  let main_v20 : FVec F S1536x512 .f32 := Host.absf main_arg4
  let main_cst_7 : FVec F S_ .f32 := constant S_ .f32 0x7F800000#32
  let main_v21 : FVec F S1536x512 .f32 := broadcastInDim S1536x512 ![] bcast_S_S1536x512 main_cst_7
  let main_v22 : IVec S1536x512 1 := cmpf .olt main_v20 main_v21
  let main_c_8 : IVec S_ 1 := constantI S_ 1 1#1
  let main_v23 : IVec S_ 1 := (fun x v => Host.reduce IntOp.andi x v reducesTo_S1536x512_S_d0_1 h_S_) main_v22 main_c_8
  let main_v24 : FVec F S1536 .f32 := Host.absf main_arg5
  let main_cst_9 : FVec F S_ .f32 := constant S_ .f32 0x7F800000#32
  let main_v25 : FVec F S1536 .f32 := broadcastInDim S1536 ![] bcast_S_S1536 main_cst_9
  let main_v26 : IVec S1536 1 := cmpf .olt main_v24 main_v25
  let main_c_10 : IVec S_ 1 := constantI S_ 1 1#1
  let main_v27 : IVec S_ 1 := (fun x v => Host.reduce IntOp.andi x v reducesTo_S1536_S_d0 h_S_) main_v26 main_c_10
  let main_v28 : IVec S_ 1 := andi main_v23 main_v27
  let main_v29 : IVec S_ 1 := andi main_v5 main_v19
  let main_v30 : IVec S_ 1 := andi main_v29 main_v28
  main_v30

def fn {F : FTy → Type} [FloatOps F] (main_arg0 : FVec F S2048x512 .f32) (main_arg1 : IVec S2048 32) (main_arg2 : FVec F S512 .f32) (main_arg3 : FVec F S512 .f32) (main_arg4 : FVec F S1536x512 .f32) (main_arg5 : FVec F S1536 .f32) (main_arg6 : FVec F S512x512 .f32) (main_arg7 : FVec F S512 .f32) : IVec S_ 1 :=
  let main_c : IVec S_ 32 := constantI S_ 32 0#32
  let main_v0 : IVec S2048 32 := broadcastInDim S2048 ![] bcast_S_S2048 main_c
  let main_v1 : IVec S2048 1 := cmpi .sge main_arg1 main_v0
  let main_c_0 : IVec S_ 32 := constantI S_ 32 16#32
  let main_v2 : IVec S2048 32 := broadcastInDim S2048 ![] bcast_S_S2048 main_c_0
  let main_v3 : IVec S2048 1 := cmpi .slt main_arg1 main_v2
  let main_v4 : IVec S2048 1 := andi main_v1 main_v3
  let main_c_1 : IVec S_ 1 := constantI S_ 1 1#1
  let main_v5 : IVec S_ 1 := (fun x v => Host.reduce IntOp.andi x v reducesTo_S2048_S_d0 h_S_) main_v4 main_c_1
  let main_v6 : FVec F S2048x512 .f32 := Host.absf main_arg0
  let main_cst : FVec F S_ .f32 := constant S_ .f32 0x7F800000#32
  let main_v7 : FVec F S2048x512 .f32 := broadcastInDim S2048x512 ![] bcast_S_S2048x512 main_cst
  let main_v8 : IVec S2048x512 1 := cmpf .olt main_v6 main_v7
  let main_c_2 : IVec S_ 1 := constantI S_ 1 1#1
  let main_v9 : IVec S_ 1 := (fun x v => Host.reduce IntOp.andi x v reducesTo_S2048x512_S_d0_1 h_S_) main_v8 main_c_2
  let main_v10 : FVec F S512 .f32 := Host.absf main_arg2
  let main_cst_3 : FVec F S_ .f32 := constant S_ .f32 0x7F800000#32
  let main_v11 : FVec F S512 .f32 := broadcastInDim S512 ![] bcast_S_S512 main_cst_3
  let main_v12 : IVec S512 1 := cmpf .olt main_v10 main_v11
  let main_c_4 : IVec S_ 1 := constantI S_ 1 1#1
  let main_v13 : IVec S_ 1 := (fun x v => Host.reduce IntOp.andi x v reducesTo_S512_S_d0 h_S_) main_v12 main_c_4
  let main_v14 : IVec S_ 1 := andi main_v9 main_v13
  let main_v15 : FVec F S512 .f32 := Host.absf main_arg3
  let main_cst_5 : FVec F S_ .f32 := constant S_ .f32 0x7F800000#32
  fn_part1 (F := F) main_arg4 main_arg5 main_v5 main_v14 main_v15 main_cst_5
-- ==== Kernel.lean ====
abbrev S2048x512 : Shape := ⟨2, ![2048, 512]⟩
abbrev S2048 : Shape := ⟨1, ![2048]⟩
abbrev S512 : Shape := ⟨1, ![512]⟩
abbrev S1536x512 : Shape := ⟨2, ![1536, 512]⟩
abbrev S1536 : Shape := ⟨1, ![1536]⟩
abbrev S512x512 : Shape := ⟨2, ![512, 512]⟩
abbrev S2048x1 : Shape := ⟨2, ![2048, 1]⟩
abbrev S1x2048 : Shape := ⟨2, ![1, 2048]⟩
abbrev S16 : Shape := ⟨1, ![16]⟩
abbrev S16x1 : Shape := ⟨2, ![16, 1]⟩
abbrev S16x2048 : Shape := ⟨2, ![16, 2048]⟩
abbrev S_ : Shape := ⟨0, ![]⟩
abbrev S8 : Shape := ⟨1, ![8]⟩
abbrev S1x16 : Shape := ⟨2, ![1, 16]⟩
abbrev S8x1 : Shape := ⟨2, ![8, 1]⟩
abbrev S8x16 : Shape := ⟨2, ![8, 16]⟩
abbrev S1x512 : Shape := ⟨2, ![1, 512]⟩
abbrev S1x1536 : Shape := ⟨2, ![1, 1536]⟩
abbrev S2048x1536 : Shape := ⟨2, ![2048, 1536]⟩
abbrev S2048x2048 : Shape := ⟨2, ![2048, 2048]⟩
abbrev S8x1x256 : Shape := ⟨3, ![8, 1, 256]⟩
abbrev S2048x16 : Shape := ⟨2, ![2048, 16]⟩
abbrev S16x16 : Shape := ⟨2, ![16, 16]⟩
abbrev S1x256 : Shape := ⟨2, ![1, 256]⟩
abbrev S16x256 : Shape := ⟨2, ![16, 256]⟩
abbrev S256 : Shape := ⟨1, ![256]⟩
abbrev S1x1x256 : Shape := ⟨3, ![1, 1, 256]⟩
abbrev S256x64 : Shape := ⟨2, ![256, 64]⟩
abbrev S256x1 : Shape := ⟨2, ![256, 1]⟩
abbrev S1 : Shape := ⟨1, ![1]⟩
abbrev S256x1536 : Shape := ⟨2, ![256, 1536]⟩
abbrev S256x256 : Shape := ⟨2, ![256, 256]⟩
abbrev S256x512 : Shape := ⟨2, ![256, 512]⟩

abbrev nBuf : Space → Nat
  | .hbm => 114
  | .vmem => 17
  | .smem => 2
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S512, .f32⟩
  | .hbm, ⟨3, _⟩ => ⟨S512, .f32⟩
  | .hbm, ⟨4, _⟩ => ⟨S1536x512, .f32⟩
  | .hbm, ⟨5, _⟩ => ⟨S1536, .f32⟩
  | .hbm, ⟨6, _⟩ => ⟨S512x512, .f32⟩
  | .hbm, ⟨7, _⟩ => ⟨S512, .f32⟩
  | .hbm, ⟨8, _⟩ => ⟨S2048, .f32⟩
  | .hbm, ⟨9, _⟩ => ⟨S2048x1, .f32⟩
  | .hbm, ⟨10, _⟩ => ⟨S1x2048, .i32⟩
  | .hbm, ⟨11, _⟩ => ⟨S16, .i32⟩
  | .hbm, ⟨12, _⟩ => ⟨S16x1, .i32⟩
  | .hbm, ⟨13, _⟩ => ⟨S16x2048, .i32⟩
  | .hbm, ⟨14, _⟩ => ⟨S16x2048, .i32⟩
  | .hbm, ⟨15, _⟩ => ⟨S16x2048, .i1⟩
  | .hbm, ⟨16, _⟩ => ⟨S16x2048, .i32⟩
  | .hbm, ⟨17, _⟩ => ⟨S_, .i32⟩
  | .hbm, ⟨18, _⟩ => ⟨S16, .i32⟩
  | .hbm, ⟨19, _⟩ => ⟨S_, .i32⟩
  | .hbm, ⟨20, _⟩ => ⟨S_, .i32⟩
  | .hbm, ⟨21, _⟩ => ⟨S16, .i32⟩
  | .hbm, ⟨22, _⟩ => ⟨S16, .i32⟩
  | .hbm, ⟨23, _⟩ => ⟨S8, .i32⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S1x16, .i32⟩
  | .hbm, ⟨28, _⟩ => ⟨S8x1, .i32⟩
  | .hbm, ⟨29, _⟩ => ⟨S8x16, .i32⟩
  | .hbm, ⟨30, _⟩ => ⟨S8x16, .i32⟩
  | .hbm, ⟨31, _⟩ => ⟨S8x16, .i1⟩
  | .hbm, ⟨32, _⟩ => ⟨S8x16, .i32⟩
  | .hbm, ⟨33, _⟩ => ⟨S_, .i32⟩
  | .hbm, ⟨34, _⟩ => ⟨S8, .i32⟩
  | .hbm, ⟨35, _⟩ => ⟨S1x16, .i32⟩
  | .hbm, ⟨36, _⟩ => ⟨S_, .i32⟩
  | .hbm, ⟨37, _⟩ => ⟨S8, .i32⟩
  | .hbm, ⟨38, _⟩ => ⟨S8, .i32⟩
  | .hbm, ⟨39, _⟩ => ⟨S_, .i32⟩
  | .hbm, ⟨40, _⟩ => ⟨S8, .i32⟩
  | .hbm, ⟨41, _⟩ => ⟨S8, .i32⟩
  | .hbm, ⟨42, _⟩ => ⟨S8x1, .i32⟩
  | .hbm, ⟨43, _⟩ => ⟨S8x16, .i32⟩
  | .hbm, ⟨44, _⟩ => ⟨S8x16, .i32⟩
  | .hbm, ⟨45, _⟩ => ⟨S8x16, .i1⟩
  | .hbm, ⟨46, _⟩ => ⟨S8x16, .i32⟩
  | .hbm, ⟨47, _⟩ => ⟨S_, .i32⟩
  | .hbm, ⟨48, _⟩ => ⟨S8, .i32⟩
  | .hbm, ⟨49, _⟩ => ⟨S_, .i32⟩
  | .hbm, ⟨50, _⟩ => ⟨S8, .i32⟩
  | .hbm, ⟨51, _⟩ => ⟨S8, .i1⟩
  | .hbm, ⟨52, _⟩ => ⟨S_, .i32⟩
  | .hbm, ⟨53, _⟩ => ⟨S8, .i32⟩
  | .hbm, ⟨54, _⟩ => ⟨S8, .i32⟩
  | .hbm, ⟨55, _⟩ => ⟨S8, .i32⟩
  | .hbm, ⟨56, _⟩ => ⟨S8x1, .i32⟩
  | .hbm, ⟨57, _⟩ => ⟨S8, .i32⟩
  | .hbm, ⟨58, _⟩ => ⟨S_, .i32⟩
  | .hbm, ⟨59, _⟩ => ⟨S_, .i32⟩
  | .hbm, ⟨60, _⟩ => ⟨S8, .i32⟩
  | .hbm, ⟨61, _⟩ => ⟨S8, .i32⟩
  | .hbm, ⟨62, _⟩ => ⟨S8, .i32⟩
  | .hbm, ⟨63, _⟩ => ⟨S_, .i32⟩
  | .hbm, ⟨64, _⟩ => ⟨S8, .i32⟩
  | .hbm, ⟨65, _⟩ => ⟨S8, .i1⟩
  | .hbm, ⟨66, _⟩ => ⟨S8, .i32⟩
  | .hbm, ⟨67, _⟩ => ⟨S8, .i32⟩
  | .hbm, ⟨68, _⟩ => ⟨S_, .i32⟩
  | .hbm, ⟨69, _⟩ => ⟨S8, .i32⟩
  | .hbm, ⟨70, _⟩ => ⟨S8, .i1⟩
  | .hbm, ⟨71, _⟩ => ⟨S8, .i1⟩
  | .hbm, ⟨72, _⟩ => ⟨S_, .i32⟩
  | .hbm, ⟨73, _⟩ => ⟨S8, .i32⟩
  | .hbm, ⟨74, _⟩ => ⟨S8, .i32⟩
  | .hbm, ⟨75, _⟩ => ⟨S8, .i32⟩
  | .hbm, ⟨76, _⟩ => ⟨S_, .i32⟩
  | .hbm, ⟨77, _⟩ => ⟨S8, .i32⟩
  | .hbm, ⟨78, _⟩ => ⟨S8, .i1⟩
  | .hbm, ⟨79, _⟩ => ⟨S_, .i32⟩
  | .hbm, ⟨80, _⟩ => ⟨S8, .i32⟩
  | .hbm, ⟨81, _⟩ => ⟨S8, .i32⟩
  | .hbm, ⟨82, _⟩ => ⟨S8, .i32⟩
  | .hbm, ⟨83, _⟩ => ⟨S8x1, .i32⟩
  | .hbm, ⟨84, _⟩ => ⟨S8, .i32⟩
  | .hbm, ⟨85, _⟩ => ⟨S_, .i32⟩
  | .hbm, ⟨86, _⟩ => ⟨S8, .i32⟩
  | .hbm, ⟨87, _⟩ => ⟨S8, .i32⟩
  | .hbm, ⟨88, _⟩ => ⟨S_, .i32⟩
  | .hbm, ⟨89, _⟩ => ⟨S8, .i32⟩
  | .hbm, ⟨90, _⟩ => ⟨S8, .i32⟩
  | .hbm, ⟨91, _⟩ => ⟨S_, .i32⟩
  | .hbm, ⟨92, _⟩ => ⟨S_, .i32⟩
  | .hbm, ⟨93, _⟩ => ⟨S8, .i32⟩
  | .hbm, ⟨94, _⟩ => ⟨S8, .i32⟩
  | .hbm, ⟨95, _⟩ => ⟨S8, .i32⟩
  | .hbm, ⟨96, _⟩ => ⟨S_, .i32⟩
  | .hbm, ⟨97, _⟩ => ⟨S8, .i32⟩
  | .hbm, ⟨98, _⟩ => ⟨S8, .i1⟩
  | .hbm, ⟨99, _⟩ => ⟨S8, .i32⟩
  | .hbm, ⟨100, _⟩ => ⟨S8, .i32⟩
  | .hbm, ⟨101, _⟩ => ⟨S_, .i32⟩
  | .hbm, ⟨102, _⟩ => ⟨S8, .i32⟩
  | .hbm, ⟨103, _⟩ => ⟨S8, .i1⟩
  | .hbm, ⟨104, _⟩ => ⟨S8, .i1⟩
  | .hbm, ⟨105, _⟩ => ⟨S_, .i32⟩
  | .hbm, ⟨106, _⟩ => ⟨S8, .i32⟩
  | .hbm, ⟨107, _⟩ => ⟨S8, .i32⟩
  | .hbm, ⟨108, _⟩ => ⟨S8, .i32⟩
  | .hbm, ⟨109, _⟩ => ⟨S1x512, .f32⟩
  | .hbm, ⟨110, _⟩ => ⟨S1x512, .f32⟩
  | .hbm, ⟨111, _⟩ => ⟨S1x1536, .f32⟩
  | .hbm, ⟨112, _⟩ => ⟨S1x512, .f32⟩
  | .hbm, ⟨113, _⟩ => ⟨S2048x512, .f32⟩
  | .local _ .vmem, ⟨0, _⟩ => ⟨S2048x512, .f32⟩
  | .local _ .vmem, ⟨1, _⟩ => ⟨S2048x1, .f32⟩
  | .local _ .vmem, ⟨2, _⟩ => ⟨S1x512, .f32⟩
  | .local _ .vmem, ⟨3, _⟩ => ⟨S1x512, .f32⟩
  | .local _ .vmem, ⟨4, _⟩ => ⟨S1536x512, .f32⟩
  | .local _ .vmem, ⟨5, _⟩ => ⟨S1x1536, .f32⟩
  | .local _ .vmem, ⟨6, _⟩ => ⟨S512x512, .f32⟩
  | .local _ .vmem, ⟨7, _⟩ => ⟨S1x512, .f32⟩
  | .local _ .vmem, ⟨8, _⟩ => ⟨S2048x512, .f32⟩
  | .local _ .vmem, ⟨9, _⟩ => ⟨S2048x512, .bf16⟩
  | .local _ .vmem, ⟨10, _⟩ => ⟨S2048x1536, .bf16⟩
  | .local _ .vmem, ⟨11, _⟩ => ⟨S2048x2048, .bf16⟩
  | .local _ .vmem, ⟨12, _⟩ => ⟨S2048x1, .f32⟩
  | .local _ .vmem, ⟨13, _⟩ => ⟨S8x1x256, .f32⟩
  | .local _ .vmem, ⟨14, _⟩ => ⟨S2048x512, .bf16⟩
  | .local _ .vmem, ⟨15, _⟩ => ⟨S1536x512, .bf16⟩
  | .local _ .vmem, ⟨16, _⟩ => ⟨S512x512, .bf16⟩
  | .local _ .smem, ⟨0, _⟩ => ⟨S8, .i32⟩
  | .local _ .smem, ⟨1, _⟩ => ⟨S8, .i32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_call0_call0_c : Ref sig .tc := ⟨.hbm, 19, rfl⟩
abbrev main_call0_call0_call0_v0 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_c_0 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_c_1 : Ref sig .tc := ⟨.hbm, 33, rfl⟩
abbrev main_call0_v21 : Ref sig .tc := ⟨.hbm, 34, rfl⟩
abbrev main_call0_v22 : Ref sig .tc := ⟨.hbm, 35, rfl⟩
abbrev main_call0_c_2 : Ref sig .tc := ⟨.hbm, 36, rfl⟩
abbrev main_call0_v23 : Ref sig .tc := ⟨.hbm, 37, rfl⟩
abbrev main_call0_v24 : Ref sig .tc := ⟨.hbm, 38, rfl⟩
abbrev main_call0_c_3 : Ref sig .tc := ⟨.hbm, 39, rfl⟩
abbrev main_call0_v25 : Ref sig .tc := ⟨.hbm, 40, rfl⟩
abbrev main_call0_v26 : Ref sig .tc := ⟨.hbm, 41, rfl⟩
abbrev main_call0_v27 : Ref sig .tc := ⟨.hbm, 42, rfl⟩
abbrev main_call0_v28 : Ref sig .tc := ⟨.hbm, 43, rfl⟩
abbrev main_call0_v29 : Ref sig .tc := ⟨.hbm, 44, rfl⟩
abbrev main_call0_v30 : Ref sig .tc := ⟨.hbm, 45, rfl⟩
abbrev main_call0_v31 : Ref sig .tc := ⟨.hbm, 46, rfl⟩
abbrev main_call0_c_4 : Ref sig .tc := ⟨.hbm, 47, rfl⟩
abbrev main_call0_v32 : Ref sig .tc := ⟨.hbm, 48, rfl⟩
abbrev main_call0_c_5 : Ref sig .tc := ⟨.hbm, 49, rfl⟩
abbrev main_call0_v33 : Ref sig .tc := ⟨.hbm, 50, rfl⟩
abbrev main_call0_v34 : Ref sig .tc := ⟨.hbm, 51, rfl⟩
abbrev main_call0_c_6 : Ref sig .tc := ⟨.hbm, 52, rfl⟩
abbrev main_call0_v35 : Ref sig .tc := ⟨.hbm, 53, rfl⟩
abbrev main_call0_v36 : Ref sig .tc := ⟨.hbm, 54, rfl⟩
abbrev main_call0_v37 : Ref sig .tc := ⟨.hbm, 55, rfl⟩
abbrev main_call0_v38 : Ref sig .tc := ⟨.hbm, 56, rfl⟩
abbrev main_call0_v39 : Ref sig .tc := ⟨.hbm, 57, rfl⟩
abbrev main_call0_c_7 : Ref sig .tc := ⟨.hbm, 58, rfl⟩
abbrev main_call0_call1_v0 : Ref sig .tc := ⟨.hbm, 59, rfl⟩
abbrev main_call0_call1_v1 : Ref sig .tc := ⟨.hbm, 60, rfl⟩
abbrev main_call0_call1_v2 : Ref sig .tc := ⟨.hbm, 61, rfl⟩
abbrev main_call0_call1_v3 : Ref sig .tc := ⟨.hbm, 62, rfl⟩
abbrev main_call0_call1_v4 : Ref sig .tc := ⟨.hbm, 63, rfl⟩
abbrev main_call0_call1_v5 : Ref sig .tc := ⟨.hbm, 64, rfl⟩
abbrev main_call0_call1_v6 : Ref sig .tc := ⟨.hbm, 65, rfl⟩
abbrev main_call0_call1_v7 : Ref sig .tc := ⟨.hbm, 66, rfl⟩
abbrev main_call0_call1_v8 : Ref sig .tc := ⟨.hbm, 67, rfl⟩
abbrev main_call0_call1_c : Ref sig .tc := ⟨.hbm, 68, rfl⟩
abbrev main_call0_call1_v9 : Ref sig .tc := ⟨.hbm, 69, rfl⟩
abbrev main_call0_call1_v10 : Ref sig .tc := ⟨.hbm, 70, rfl⟩
abbrev main_call0_call1_v11 : Ref sig .tc := ⟨.hbm, 71, rfl⟩
abbrev main_call0_call1_c_0 : Ref sig .tc := ⟨.hbm, 72, rfl⟩
abbrev main_call0_call1_v12 : Ref sig .tc := ⟨.hbm, 73, rfl⟩
abbrev main_call0_call1_v13 : Ref sig .tc := ⟨.hbm, 74, rfl⟩
abbrev main_call0_v40 : Ref sig .tc := ⟨.hbm, 75, rfl⟩
abbrev main_call0_c_8 : Ref sig .tc := ⟨.hbm, 76, rfl⟩
abbrev main_call0_v41 : Ref sig .tc := ⟨.hbm, 77, rfl⟩
abbrev main_call0_v42 : Ref sig .tc := ⟨.hbm, 78, rfl⟩
abbrev main_call0_c_9 : Ref sig .tc := ⟨.hbm, 79, rfl⟩
abbrev main_call0_v43 : Ref sig .tc := ⟨.hbm, 80, rfl⟩
abbrev main_call0_v44 : Ref sig .tc := ⟨.hbm, 81, rfl⟩
abbrev main_call0_v45 : Ref sig .tc := ⟨.hbm, 82, rfl⟩
abbrev main_call0_v46 : Ref sig .tc := ⟨.hbm, 83, rfl⟩
abbrev main_call0_v47 : Ref sig .tc := ⟨.hbm, 84, rfl⟩
abbrev main_call0_c_10 : Ref sig .tc := ⟨.hbm, 85, rfl⟩
abbrev main_call0_v48 : Ref sig .tc := ⟨.hbm, 86, rfl⟩
abbrev main_call0_v49 : Ref sig .tc := ⟨.hbm, 87, rfl⟩
abbrev main_call0_c_11 : Ref sig .tc := ⟨.hbm, 88, rfl⟩
abbrev main_call0_v50 : Ref sig .tc := ⟨.hbm, 89, rfl⟩
abbrev main_call0_v51 : Ref sig .tc := ⟨.hbm, 90, rfl⟩
abbrev main_call0_c_12 : Ref sig .tc := ⟨.hbm, 91, rfl⟩
abbrev main_call0_call2_v0 : Ref sig .tc := ⟨.hbm, 92, rfl⟩
abbrev main_call0_call2_v1 : Ref sig .tc := ⟨.hbm, 93, rfl⟩
abbrev main_call0_call2_v2 : Ref sig .tc := ⟨.hbm, 94, rfl⟩
abbrev main_call0_call2_v3 : Ref sig .tc := ⟨.hbm, 95, rfl⟩
abbrev main_call0_call2_v4 : Ref sig .tc := ⟨.hbm, 96, rfl⟩
abbrev main_call0_call2_v5 : Ref sig .tc := ⟨.hbm, 97, rfl⟩
abbrev main_call0_call2_v6 : Ref sig .tc := ⟨.hbm, 98, rfl⟩
abbrev main_call0_call2_v7 : Ref sig .tc := ⟨.hbm, 99, rfl⟩
abbrev main_call0_call2_v8 : Ref sig .tc := ⟨.hbm, 100, rfl⟩
abbrev main_call0_call2_c : Ref sig .tc := ⟨.hbm, 101, rfl⟩
abbrev main_call0_call2_v9 : Ref sig .tc := ⟨.hbm, 102, rfl⟩
abbrev main_call0_call2_v10 : Ref sig .tc := ⟨.hbm, 103, rfl⟩
abbrev main_call0_call2_v11 : Ref sig .tc := ⟨.hbm, 104, rfl⟩
abbrev main_call0_call2_c_0 : Ref sig .tc := ⟨.hbm, 105, rfl⟩
abbrev main_call0_call2_v12 : Ref sig .tc := ⟨.hbm, 106, rfl⟩
abbrev main_call0_call2_v13 : Ref sig .tc := ⟨.hbm, 107, rfl⟩
abbrev main_call0_v52 : Ref sig .tc := ⟨.hbm, 108, rfl⟩
abbrev main_call0_v53 : Ref sig .tc := ⟨.hbm, 109, rfl⟩
abbrev main_call0_v54 : Ref sig .tc := ⟨.hbm, 110, rfl⟩
abbrev main_call0_v55 : Ref sig .tc := ⟨.hbm, 111, rfl⟩
abbrev main_call0_v56 : Ref sig .tc := ⟨.hbm, 112, rfl⟩
abbrev main_v0 : Ref sig .tc := ⟨.hbm, 113, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c256_i32 : BitVec 32 := 256#32
  let v3 : BitVec 32 := Scalar.muli arg0 c256_i32
  let v4 : Index := Scalar.indexCast v3
  let c0 : Index := 0#32
  ![v4.toNat, 0]
def k0_off2 (i : grid0.Coords) : Fin 2 → Nat :=
  let arg0 : BitVec 32 := BitVec.ofNat 32 (i 0).val
  let c256_i32 : BitVec 32 := 256#32
  let v3 : BitVec 32 := Scalar.muli arg0 c256_i32
  let v6 : Index := Scalar.indexCast v3
  let c64 : Index := 64#32
  ![v6.toNat, 64]
def k0_off3 (i : grid0.Coords) : Fin 2 → Nat :=
  let arg0 : BitVec 32 := BitVec.ofNat 32 (i 0).val
  let c256_i32 : BitVec 32 := 256#32
  let v3 : BitVec 32 := Scalar.muli arg0 c256_i32
  let v8 : Index := Scalar.indexCast v3
  let c128 : Index := 128#32
  ![v8.toNat, 128]
def k0_off4 (i : grid0.Coords) : Fin 2 → Nat :=
  let arg0 : BitVec 32 := BitVec.ofNat 32 (i 0).val
  let c256_i32 : BitVec 32 := 256#32
  let v3 : BitVec 32 := Scalar.muli arg0 c256_i32
  let v10 : Index := Scalar.indexCast v3
  let c192 : Index := 192#32
  ![v10.toNat, 192]
def k0_off5 (i : grid0.Coords) : Fin 2 → Nat :=
  let arg0 : BitVec 32 := BitVec.ofNat 32 (i 0).val
  let c256_i32 : BitVec 32 := 256#32
  let v3 : BitVec 32 := Scalar.muli arg0 c256_i32
  let v12 : Index := Scalar.indexCast v3
  let c256 : Index := 256#32
  ![v12.toNat, 256]
def k0_off6 (i : grid0.Coords) : Fin 2 → Nat :=
  let arg0 : BitVec 32 := BitVec.ofNat 32 (i 0).val
  let c256_i32 : BitVec 32 := 256#32
  let v3 : BitVec 32 := Scalar.muli arg0 c256_i32
  let v14 : Index := Scalar.indexCast v3
  let c320 : Index := 320#32
  ![v14.toNat, 320]
def k0_off7 (i : grid0.Coords) : Fin 2 → Nat :=
  let arg0 : BitVec 32 := BitVec.ofNat 32 (i 0).val
  let c256_i32 : BitVec 32 := 256#32
  let v3 : BitVec 32 := Scalar.muli arg0 c256_i32
  let v16 : Index := Scalar.indexCast v3
  let c384 : Index := 384#32
  ![v16.toNat, 384]
def k0_off8 (i : grid0.Coords) : Fin 2 → Nat :=
  let arg0 : BitVec 32 := BitVec.ofNat 32 (i 0).val
  let c256_i32 : BitVec 32 := 256#32
  let v3 : BitVec 32 := Scalar.muli arg0 c256_i32
  let v18 : Index := Scalar.indexCast v3
  let c448 : Index := 448#32
  ![v18.toNat, 448]
def k0_off9 (i : grid0.Coords) : Fin 2 → Nat :=
  let arg0 : BitVec 32 := BitVec.ofNat 32 (i 0).val
  let c256_i32 : BitVec 32 := 256#32
  let v3 : BitVec 32 := Scalar.muli arg0 c256_i32
  let v20 : Index := Scalar.indexCast v3
  let c0_1 : Index := 0#32
  ![v20.toNat, 0]
def k0_off10 (i : grid0.Coords) : Fin 1 → Nat :=
  let arg0 : BitVec 32 := BitVec.ofNat 32 (i 0).val
  let v38 : Index := Scalar.indexCast arg0
  ![v38.toNat]
@[reducible] def k0_t1_loop (v39 : BitVec 32) (v41 : BitVec 32) : Scf.Loop 32 :=
  let v42 : BitVec 32 := Scalar.subi v41 v39
  let c1_i32 : BitVec 32 := 1#32
  let v44 : BitVec 32 := Scalar.divsi v42 c1_i32
  let v45 : BitVec 32 := Scalar.muli v44 c1_i32
  let v46 : BitVec 32 := Scalar.addi v39 v45
  let c1_i32_17 : BitVec 32 := 1#32
  ⟨v39, v46, c1_i32_17⟩

def k0_off11 (v39 : BitVec 32) (v41 : BitVec 32) (k0_t1 : Fin (k0_t1_loop v39 v41).trips) : Fin 2 → Nat :=
  let c1_i32_17 : BitVec 32 := 1#32
  let arg20 : BitVec 32 := Scf.iv v39 c1_i32_17 k0_t1
  let c256_i32_24 : BitVec 32 := 256#32
  let v84 : BitVec 32 := Scalar.muli arg20 c256_i32_24
  let v85 : Index := Scalar.indexCast v84
  let c0_25 : Index := 0#32
  ![v85.toNat, 0]
def k0_off12 (v39 : BitVec 32) (v41 : BitVec 32) (k0_t1 : Fin (k0_t1_loop v39 v41).trips) : Fin 3 → Nat :=
  let c1_i32_17 : BitVec 32 := 1#32
  let arg20 : BitVec 32 := Scf.iv v39 c1_i32_17 k0_t1
  let v87 : Index := Scalar.indexCast arg20
  let c0_26 : Index := 0#32
  let c0_27 : Index := 0#32
  ![v87.toNat, 0, 0]
@[reducible] def k0_t2_loop (v39 : BitVec 32) (v41 : BitVec 32) : Scf.Loop 32 :=
  let v42 : BitVec 32 := Scalar.subi v41 v39
  let c1_i32 : BitVec 32 := 1#32
  let v44 : BitVec 32 := Scalar.divsi v42 c1_i32
  let v45 : BitVec 32 := Scalar.muli v44 c1_i32
  let v46 : BitVec 32 := Scalar.addi v39 v45
  let v43 : BitVec 32 := Scalar.addi v39 v42
  let c1_i32_18 : BitVec 32 := 1#32
  ⟨v46, v43, c1_i32_18⟩
def k0_off13 (v39 : BitVec 32) (v41 : BitVec 32) (k0_t2 : Fin (k0_t2_loop v39 v41).trips) : Fin 2 → Nat :=
  let v42 : BitVec 32 := Scalar.subi v41 v39
  let c1_i32 : BitVec 32 := 1#32
  let v44 : BitVec 32 := Scalar.divsi v42 c1_i32
  let v45 : BitVec 32 := Scalar.muli v44 c1_i32
  let v46 : BitVec 32 := Scalar.addi v39 v45
  let c1_i32_18 : BitVec 32 := 1#32
  let arg20 : BitVec 32 := Scf.iv v46 c1_i32_18 k0_t2
  let c256_i32_24 : BitVec 32 := 256#32
  let v84 : BitVec 32 := Scalar.muli arg20 c256_i32_24
  let v85 : Index := Scalar.indexCast v84
  let c0_25 : Index := 0#32
  ![v85.toNat, 0]
def k0_off14 (v39 : BitVec 32) (v41 : BitVec 32) (k0_t2 : Fin (k0_t2_loop v39 v41).trips) : Fin 3 → Nat :=
  let v42 : BitVec 32 := Scalar.subi v41 v39
  let c1_i32 : BitVec 32 := 1#32
  let v44 : BitVec 32 := Scalar.divsi v42 c1_i32
  let v45 : BitVec 32 := Scalar.muli v44 c1_i32
  let v46 : BitVec 32 := Scalar.addi v39 v45
  let c1_i32_18 : BitVec 32 := 1#32
  let arg20 : BitVec 32 := Scf.iv v46 c1_i32_18 k0_t2
  let v87 : Index := Scalar.indexCast arg20
  let c0_26 : Index := 0#32
  let c0_27 : Index := 0#32
  ![v87.toNat, 0, 0]

def k0_chk1 (v39 : BitVec 32) (v41 : BitVec 32) : Prop :=
  ((k0_t1_loop v39 v41).OK) ∧
  (∀ k0_t1 : Fin (k0_t1_loop v39 v41).trips, ∀ a, (k0_off11 v39 v41 k0_t1) a + S256x1536.size a ≤ S2048x1536.size a) ∧
  (∀ k0_t1 : Fin (k0_t1_loop v39 v41).trips, ∀ a, (k0_off12 v39 v41 k0_t1) a + S1x1x256.size a ≤ S8x1x256.size a) ∧
  ((k0_t2_loop v39 v41).OK) ∧
  (∀ k0_t2 : Fin (k0_t2_loop v39 v41).trips, ∀ a, (k0_off13 v39 v41 k0_t2) a + S256x1536.size a ≤ S2048x1536.size a) ∧
  (∀ k0_t2 : Fin (k0_t2_loop v39 v41).trips, ∀ a, (k0_off14 v39 v41 k0_t2) a + S1x1x256.size a ≤ S8x1x256.size a)
theorem k0_t1_ok : ∀ (v39 : BitVec 32) (v41 : BitVec 32) (k0_hw1 : k0_chk1 v39 v41), (k0_t1_loop v39 v41).OK := fun v39 v41 k0_hw1 => k0_hw1.1
theorem k0_off11_inb : ∀ (v39 : BitVec 32) (v41 : BitVec 32) (k0_hw1 : k0_chk1 v39 v41) (k0_t1 : Fin (k0_t1_loop v39 v41).trips), ∀ a, (k0_off11 v39 v41 k0_t1) a + S256x1536.size a ≤ S2048x1536.size a := fun v39 v41 k0_hw1 k0_t1 => k0_hw1.2.1 k0_t1
theorem k0_off12_inb : ∀ (v39 : BitVec 32) (v41 : BitVec 32) (k0_hw1 : k0_chk1 v39 v41) (k0_t1 : Fin (k0_t1_loop v39 v41).trips), ∀ a, (k0_off12 v39 v41 k0_t1) a + S1x1x256.size a ≤ S8x1x256.size a := fun v39 v41 k0_hw1 k0_t1 => k0_hw1.2.2.1 k0_t1
theorem k0_t2_ok : ∀ (v39 : BitVec 32) (v41 : BitVec 32) (k0_hw1 : k0_chk1 v39 v41), (k0_t2_loop v39 v41).OK := fun v39 v41 k0_hw1 => k0_hw1.2.2.2.1
theorem k0_off13_inb : ∀ (v39 : BitVec 32) (v41 : BitVec 32) (k0_hw1 : k0_chk1 v39 v41) (k0_t2 : Fin (k0_t2_loop v39 v41).trips), ∀ a, (k0_off13 v39 v41 k0_t2) a + S256x1536.size a ≤ S2048x1536.size a := fun v39 v41 k0_hw1 k0_t2 => k0_hw1.2.2.2.2.1 k0_t2
theorem k0_off14_inb : ∀ (v39 : BitVec 32) (v41 : BitVec 32) (k0_hw1 : k0_chk1 v39 v41) (k0_t2 : Fin (k0_t2_loop v39 v41).trips), ∀ a, (k0_off14 v39 v41 k0_t2) a + S1x1x256.size a ≤ S8x1x256.size a := fun v39 v41 k0_hw1 k0_t2 => k0_hw1.2.2.2.2.2 k0_t2

def k0_off15 (i : grid0.Coords) : Fin 2 → Nat :=
  let arg0 : BitVec 32 := BitVec.ofNat 32 (i 0).val
  let c256_i32 : BitVec 32 := 256#32
  let v3 : BitVec 32 := Scalar.muli arg0 c256_i32
  let v77 : Index := Scalar.indexCast v3
  let c0_22 : Index := 0#32
  ![v77.toNat, 0]
def k0_cond2 (i : grid0.Coords) : BitVec 1 :=
  let arg0 : BitVec 32 := BitVec.ofNat 32 (i 0).val
  let c7_i32 : BitVec 32 := 7#32
  let v81 : BitVec 1 := Scalar.cmpi .eq arg0 c7_i32
  let v82 : BitVec 32 := Scalar.extui v81
  let c0_i32_23 : BitVec 32 := 0#32
  let v83 : BitVec 1 := Scalar.cmpi .ne v82 c0_i32_23
  v83

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1536x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2048x512 : Shape := ⟨2, ![2048, 512]⟩
abbrev S2048 : Shape := ⟨1, ![2048]⟩
abbrev S512 : Shape := ⟨1, ![512]⟩
abbrev S1536x512 : Shape := ⟨2, ![1536, 512]⟩
abbrev S1536 : Shape := ⟨1, ![1536]⟩
abbrev S512x512 : Shape := ⟨2, ![512, 512]⟩
abbrev S_ : Shape := ⟨0, ![]⟩
abbrev S2048x1 : Shape := ⟨2, ![2048, 1]⟩
abbrev S1x512 : Shape := ⟨2, ![1, 512]⟩
abbrev S512x1536 : Shape := ⟨2, ![512, 1536]⟩
abbrev S2048x1536 : Shape := ⟨2, ![2048, 1536]⟩
abbrev S1x1536 : Shape := ⟨2, ![1, 1536]⟩
abbrev S2048x8x64 : Shape := ⟨3, ![2048, 8, 64]⟩
abbrev S8x2048x64 : Shape := ⟨3, ![8, 2048, 64]⟩
abbrev S8x2048x2048 : Shape := ⟨3, ![8, 2048, 2048]⟩
abbrev S1x2048 : Shape := ⟨2, ![1, 2048]⟩
abbrev S2048x2048 : Shape := ⟨2, ![2048, 2048]⟩
abbrev S1x2048x2048 : Shape := ⟨3, ![1, 2048, 2048]⟩
abbrev S8x2048 : Shape := ⟨2, ![8, 2048]⟩
abbrev S8x2048x1 : Shape := ⟨3, ![8, 2048, 1]⟩

abbrev nBuf : Space → Nat
  | .hbm => 92
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S512, .f32⟩
  | .hbm, ⟨3, _⟩ => ⟨S512, .f32⟩
  | .hbm, ⟨4, _⟩ => ⟨S1536x512, .f32⟩
  | .hbm, ⟨5, _⟩ => ⟨S1536, .f32⟩
  | .hbm, ⟨6, _⟩ => ⟨S512x512, .f32⟩
  | .hbm, ⟨7, _⟩ => ⟨S512, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x512, .f32⟩
  | .hbm, ⟨24, _⟩ => ⟨S2048x512, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S2048x512, .f32⟩
  | .hbm, ⟨30, _⟩ => ⟨S2048x512, .f32⟩
  | .hbm, ⟨31, _⟩ => ⟨S1x512, .f32⟩
  | .hbm, ⟨32, _⟩ => ⟨S2048x512, .f32⟩
  | .hbm, ⟨33, _⟩ => ⟨S2048x512, .f32⟩
  | .hbm, ⟨34, _⟩ => ⟨S1x512, .f32⟩
  | .hbm, ⟨35, _⟩ => ⟨S2048x512, .f32⟩
  | .hbm, ⟨36, _⟩ => ⟨S2048x512, .f32⟩
  | .hbm, ⟨37, _⟩ => ⟨S512x1536, .f32⟩
  | .hbm, ⟨38, _⟩ => ⟨S2048x1536, .f32⟩
  | .hbm, ⟨39, _⟩ => ⟨S1x1536, .f32⟩
  | .hbm, ⟨40, _⟩ => ⟨S2048x1536, .f32⟩
  | .hbm, ⟨41, _⟩ => ⟨S2048x1536, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S2048x8x64, .f32⟩
  | .hbm, ⟨46, _⟩ => ⟨S8x2048x64, .f32⟩
  | .hbm, ⟨47, _⟩ => ⟨S2048x8x64, .f32⟩
  | .hbm, ⟨48, _⟩ => ⟨S8x2048x64, .f32⟩
  | .hbm, ⟨49, _⟩ => ⟨S2048x8x64, .f32⟩
  | .hbm, ⟨50, _⟩ => ⟨S8x2048x64, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S2048x1, .i32⟩
  | .hbm, ⟨59, _⟩ => ⟨S1x2048, .i32⟩
  | .hbm, ⟨60, _⟩ => ⟨S2048x2048, .i32⟩
  | .hbm, ⟨61, _⟩ => ⟨S2048x2048, .i32⟩
  | .hbm, ⟨62, _⟩ => ⟨S2048x2048, .i1⟩
  | .hbm, ⟨63, _⟩ => ⟨S1x2048x2048, .i1⟩
  | .hbm, ⟨64, _⟩ => ⟨S_, .f32⟩
  | .hbm, ⟨65, _⟩ => ⟨S_, .f32⟩
  | .hbm, ⟨66, _⟩ => ⟨S8x2048x2048, .i1⟩
  | .hbm, ⟨67, _⟩ => ⟨S8x2048x2048, .f32⟩
  | .hbm, ⟨68, _⟩ => ⟨S8x2048x2048, .f32⟩
  | .hbm, ⟨69, _⟩ => ⟨S_, .f32⟩
  | .hbm, ⟨70, _⟩ => ⟨S8x2048, .f32⟩
  | .hbm, ⟨71, _⟩ => ⟨S_, .f32⟩
  | .hbm, ⟨72, _⟩ => ⟨S8x2048, .f32⟩
  | .hbm, ⟨73, _⟩ => ⟨S8x2048, .f32⟩
  | .hbm, ⟨74, _⟩ => ⟨S8x2048x1, .f32⟩
  | .hbm, ⟨75, _⟩ => ⟨S8x2048x2048, .f32⟩
  | .hbm, ⟨76, _⟩ => ⟨S8x2048x2048, .f32⟩
  | .hbm, ⟨77, _⟩ => ⟨S8x2048x2048, .f32⟩
  | .hbm, ⟨78, _⟩ => ⟨S_, .f32⟩
  | .hbm, ⟨79, _⟩ => ⟨S8x2048, .f32⟩
  | .hbm, ⟨80, _⟩ => ⟨S8x2048x1, .f32⟩
  | .hbm, ⟨81, _⟩ => ⟨S8x2048x2048, .f32⟩
  | .hbm, ⟨82, _⟩ => ⟨S8x2048x2048, .f32⟩
  | .hbm, ⟨83, _⟩ => ⟨S8x2048x64, .f32⟩
  | .hbm, ⟨84, _⟩ => ⟨S2048x8x64, .f32⟩
  | .hbm, ⟨85, _⟩ => ⟨S2048x512, .f32⟩
  | .hbm, ⟨86, _⟩ => ⟨S512x512, .f32⟩
  | .hbm, ⟨87, _⟩ => ⟨S2048x512, .f32⟩
  | .hbm, ⟨88, _⟩ => ⟨S1x512, .f32⟩
  | .hbm, ⟨89, _⟩ => ⟨S2048x512, .f32⟩
  | .hbm, ⟨90, _⟩ => ⟨S2048x512, .f32⟩
  | .hbm, ⟨91, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_cst_8 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== Proof.HostWords.lean ====
module

public import proofs.«01_k».proof.Proof.Gen.KernelIdeal.Frame
public import Idealize.ShloMosaic.Lib.Routing.Words
public import Idealize.ShloMosaic.Lib.Routing.OpsOne
public import Idealize.ShloMosaic.Lib.Routing.OpsSearch
public import Idealize.ShloMosaic.Lib.StableHlo.Predicate
public import Idealize.ShloMosaic.Lib.WordSum
public import Idealize.ShloMosaic.Lib.WordArith
public import Idealize.ShloMosaic.Lib.Claim

@[expose] public section

set_option maxRecDepth 16384

noncomputable section

namespace Cert.KernelIdeal.Hand

open Idealize.ShloMosaic Idealize.ShloMosaic.WordArith Idealize.ShloMosaic.Routing Idealize.ShloMosaic.ValueIdx
open Cert.KernelIdeal.Gen

section Words
variable (ids : IVec S2048 32)

/-- The printed number of tokens of each group. -/
def cntW : IVec S16 32 :=
  Host.reduce IntOp.addi
    (extui 32 (cmpi .eq (broadcastInDim S16x2048 ![0, 1] bcast_S1x2048_S16x2048_0_1 (broadcastInDim S1x2048 ![1] bcast_S2048_S1x2048_1 ids))
      (broadcastInDim S16x2048 ![0, 1] bcast_S16x1_S16x2048_0_1 (broadcastInDim S16x1 ![0] bcast_S16_S16x1_0 (iotaInDim S16 32 0)))) natLt_1_32)
    (constantI S_ 32 0#32) reducesTo_S16x2048_S16_d1 h_S_

/-- The printed running totals of the group sizes. -/
def endW : IVec S16 32 :=
  Host.reduceWindow IntOp.addi ![16] ![1] ![15] ![0] (cntW ids) (broadcastInDim S_ ![] bcast_S_S_ (constantI S_ 32 0#32))
    reduceWindows_S16_S16_w16s1p15_0 h_S_

/-- The printed group starts. -/
def offW : IVec S16 32 := subi (endW ids) (cntW ids)

/-- The printed first row of each block. -/
def rowW : IVec S8 32 := muli (iotaInDim S8 32 0) (broadcastInDim S8 ![] bcast_S_S8 (constantI S_ 32 256#32))

/-- The printed number of groups that end at or before a row. -/
def posW (r : IVec S8 32) : IVec S8 32 :=
  Host.reduce IntOp.addi
    (extui 32 (cmpi .sle (broadcastInDim S8x16 ![0, 1] bcast_S1x16_S8x16_0_1 (broadcastInDim S1x16 ![1] bcast_S16_S1x16_1 (endW ids)))
      (broadcastInDim S8x16 ![0, 1] bcast_S8x1_S8x16_0_1 (broadcastInDim S8x1 ![0] bcast_S8_S8x1_0 r))) natLt_1_32)
    (constantI S_ 32 0#32) reducesTo_S8x16_S8_d1 h_S_

/-- The printed lookup of a word of a table of sixteen at the printed group number. -/
def atW (x : IVec S16 32) (p : IVec S8 32) : IVec S8 32 :=
  Host.gather gather_S16_S8x1_S8_n_0_n_n_0_1_1 x
    (broadcastInDim S8x1 ![0] bcast_S8_S8x1_0
      (select (cmpi .slt p (broadcastInDim S8 ![] bcast_S_S8 (constantI S_ 32 0#32)))
        (addi p (broadcastInDim S8 ![] bcast_S_S8 (constantI S_ 32 16#32))) p))

/-- The printed floor division by the block height. -/
def blkW (x : IVec S8 32) : IVec S8 32 := pyDiv bcast_S_S8 x (constantI S_ 32 256#32)

/-- The printed first key block of each query block. -/
def lobW : IVec S8 32 := blkW (atW (offW ids) (posW ids rowW))

/-- The printed row after the last key row, rounded up: before the division. -/
def topW (x : IVec S8 32) : IVec S8 32 :=
  subi (addi x (broadcastInDim S8 ![] bcast_S_S8 (constantI S_ 32 256#32))) (broadcastInDim S8 ![] bcast_S_S8 (constantI S_ 32 1#32))

/-- The printed last row of each block. -/
def lastW : IVec S8 32 := topW rowW

/-- The printed block after the last key block of each query block. -/
def hibW : IVec S8 32 := blkW (topW (atW (endW ids) (posW ids lastW)))

/-! ### What the words hold -/

/-- The number of tokens of group `k`. -/
def cntN (k : Nat) : Nat := (Finset.univ.filter fun q : Fin 2048 => ids (ix1 q) = BitVec.ofNat 32 k).card

/-- The number of tokens of the groups up to and including `k`. -/
def endN (k : Nat) : Nat := ∑ e ∈ Finset.range (k + 1), cntN ids e

/-- The number of tokens of the groups before `k`. -/
def offN (k : Nat) : Nat := ∑ e ∈ Finset.range k, cntN ids e

/-- The number of groups that end at or before row `r`. -/
def posN (r : Nat) : Nat := (Finset.univ.filter fun e : Fin 16 => endN ids e.val ≤ r).card

/-- The first key block of query block `t`. -/
def lobN (t : Nat) : Nat := offN ids (min (posN ids (256 * t)) 15) / 256

/-- The block after the last key block of query block `t`. -/
def hibN (t : Nat) : Nat := (endN ids (min (posN ids (256 * t + 255)) 15) + 255) / 256

/-- A group ends where it starts plus its size. -/
theorem endN_eq (k : Nat) : endN ids k = offN ids k + cntN ids k := Finset.sum_range_succ _ _

/-- A token has one group: the groups' sizes come to at most the number of tokens. -/
theorem sum_cntN_le (n : Nat) (hn : n ≤ 16) : ∑ e ∈ Finset.range n, cntN ids e ≤ 2048 := by
  classical
  have h : (∑ e ∈ Finset.range n, cntN ids e)
      = ((Finset.range n).biUnion fun k => Finset.univ.filter fun q : Fin 2048 => ids (ix1 q) = BitVec.ofNat 32 k).card := by
    rw [Finset.card_biUnion]
    · rfl
    · intro a ha b hb hab
      rw [Function.onFun, Finset.disjoint_left]
      intro q h1 h2
      have e1 := (Finset.mem_filter.1 h1).2
      have e2 := (Finset.mem_filter.1 h2).2
      rw [e1] at e2
      have e3 := congrArg BitVec.toNat e2
      rw [BitVec.toNat_ofNat, BitVec.toNat_ofNat] at e3
      have := Finset.mem_range.1 ha
      have := Finset.mem_range.1 hb
      omega
  rw [h]
  exact (Finset.card_le_univ _).trans (by simp)

/-- A group ends inside the array. -/
theorem endN_le (k : Nat) (hk : k < 16) : endN ids k ≤ 2048 := sum_cntN_le ids (k + 1) hk
/-- A group starts inside the array. -/
theorem offN_le (k : Nat) (hk : k < 16) : offN ids k ≤ 2048 := sum_cntN_le ids k (by omega)
/-- A group has no more members than there are tokens. -/
theorem cntN_le (k : Nat) (hk : k < 16) : cntN ids k ≤ 2048 := by
  have := endN_le ids k hk; rw [endN_eq] at this; omega

/-- Groups start in order. -/
theorem offN_mono {a b : Nat} (h : a ≤ b) : offN ids a ≤ offN ids b :=
  Finset.sum_le_sum_of_subset (Finset.range_mono h)

/-- A group number is at most sixteen. -/
theorem posN_le (r : Nat) : posN ids r ≤ 16 := (Finset.card_le_univ _).trans (by simp)

/-- Group numbers grow along the rows. -/
theorem posN_mono {a b : Nat} (h : a ≤ b) : posN ids a ≤ posN ids b :=
  Finset.card_le_card fun e he => by
    rw [Finset.mem_filter] at he ⊢
    exact ⟨he.1, he.2.trans h⟩

/-- The word that counts group `k`. -/
theorem cntW_apply (k : Fin 16) : cntW ids (ix1 k) = BitVec.ofNat 32 (cntN ids k.val) := by
  apply BitVec.eq_of_toNat_eq
  unfold cntW
  refine (StableHlo.Predicate.toNat_reduce_count_cols (by decide) _ natLt_1_32 reducesTo_S16x2048_S16_d1 h_S_ (ix1 k)).trans ?_
  have hc : cntN ids k.val ≤ 2048 := cntN_le ids k.val k.isLt
  rw [BitVec.toNat_ofNat, Nat.mod_eq_of_lt (by omega)]
  unfold cntN
  refine congrArg Finset.card (Finset.filter_congr fun q _ => ?_)
  rw [ij_eq_ix2]
  have e1 := bcCols bcast_S2048_S1x2048_1 bcast_S1x2048_S16x2048_0_1 ids k q
  have e2 := bcRows bcast_S16_S16x1_0 bcast_S16x1_S16x2048_0_1 (iotaInDim S16 32 0) k q
  show IntOp.cmpi .eq _ _ = 1#1 ↔ _
  have e3 : iotaInDim S16 32 0 (ix1 k) = BitVec.ofNat 32 k.val := rfl
  rw [show broadcastInDim S16x2048 ![0, 1] bcast_S1x2048_S16x2048_0_1 (broadcastInDim S1x2048 ![1] bcast_S2048_S1x2048_1 ids) (ix2 ((ix1 k : S16.Idx) 0) q) = ids (ix1 q) from e1,
    show broadcastInDim S16x2048 ![0, 1] bcast_S16x1_S16x2048_0_1 (broadcastInDim S16x1 ![0] bcast_S16_S16x1_0 (iotaInDim S16 32 0)) (ix2 ((ix1 k : S16.Idx) 0) q) = BitVec.ofNat 32 k.val from e2.trans e3]
  simp only [IntOp.cmpi]
  rw [ofBool_eq_one_iff]
  exact beq_iff_eq

/-- The word at which group `k` ends. -/
theorem endW_apply (k : Fin 16) : endW ids (ix1 k) = BitVec.ofNat 32 (endN ids k.val) := by
  unfold endW
  refine (cumsum_vec (N := 16) (Nm1 := 15) rfl (cntW ids) _ rfl reduceWindows_S16_S16_w16s1p15_0 h_S_ k).trans ?_
  simp only [cntW_apply]
  unfold endN
  rw [← Finset.sum_filter]
  have e : ∀ (S : Finset (Fin 16)), ∑ a ∈ S, BitVec.ofNat 32 (cntN ids a.val) = BitVec.ofNat 32 (∑ a ∈ S, cntN ids a.val) := by
    intro S
    induction S using Finset.cons_induction with
    | empty => rfl
    | cons a S ha ih => rw [Finset.sum_cons, Finset.sum_cons, ih, BitVec.ofNat_add]
  rw [e]
  congr 1
  rw [Finset.sum_filter]
  show (∑ a : Fin 16, if a.val ≤ k.val then cntN ids a.val else 0) = _
  rw [Fin.sum_univ_eq_sum_range (fun n => if n ≤ k.val then cntN ids n else 0) 16, ← Finset.sum_filter]
  refine Finset.sum_congr (Finset.ext fun n => ?_) fun _ _ => rfl
  rw [Finset.mem_filter, Finset.mem_range, Finset.mem_range]
  have := k.isLt
  omega

/-- The word at which group `k` starts. -/
theorem offW_apply (k : Fin 16) : offW ids (ix1 k) = BitVec.ofNat 32 (offN ids k.val) := by
  show endW ids (ix1 k) - cntW ids (ix1 k) = _
  rw [endW_apply, cntW_apply, endN_eq, BitVec.ofNat_add]
  simp

/-- The word of the first row of block `t`. -/
theorem rowW_apply (t : Fin 8) : rowW (ix1 t) = BitVec.ofNat 32 (256 * t.val) := by
  revert t; decide

/-- The word of the last row of block `t`. -/
theorem lastW_apply (t : Fin 8) : lastW (ix1 t) = BitVec.ofNat 32 (256 * t.val + 255) := by
  revert t; decide

/-- The word of the group of a row. -/
theorem posW_apply (r : IVec S8 32) (t : Fin 8) (n : Nat) (hn : n < 2 ^ 31) (hr : r (ix1 t) = BitVec.ofNat 32 n) :
    posW ids r (ix1 t) = BitVec.ofNat 32 (posN ids n) := by
  apply BitVec.eq_of_toNat_eq
  unfold posW
  refine (StableHlo.Predicate.toNat_reduce_count_cols (by decide) _ natLt_1_32 reducesTo_S8x16_S8_d1 h_S_ (ix1 t)).trans ?_
  have hc := posN_le ids n
  rw [BitVec.toNat_ofNat, Nat.mod_eq_of_lt (by omega)]
  unfold posN
  refine congrArg Finset.card (Finset.filter_congr fun q _ => ?_)
  rw [ij_eq_ix2]
  have e1 := bcCols bcast_S16_S1x16_1 bcast_S1x16_S8x16_0_1 (endW ids) t q
  have e2 := bcRows bcast_S8_S8x1_0 bcast_S8x1_S8x16_0_1 r t q
  show IntOp.cmpi .sle _ _ = 1#1 ↔ _
  rw [show broadcastInDim S8x16 ![0, 1] bcast_S1x16_S8x16_0_1 (broadcastInDim S1x16 ![1] bcast_S16_S1x16_1 (endW ids)) (ix2 ((ix1 t : S8.Idx) 0) q) = BitVec.ofNat 32 (endN ids q.val) from e1.trans (endW_apply ids q),
    show broadcastInDim S8x16 ![0, 1] bcast_S8x1_S8x16_0_1 (broadcastInDim S8x1 ![0] bcast_S8_S8x1_0 r) (ix2 ((ix1 t : S8.Idx) 0) q) = BitVec.ofNat 32 n from e2.trans hr]
  simp only [IntOp.cmpi]
  have := endN_le ids q.val q.isLt
  rw [sle_ofNat32 (by omega) hn, ofBool_eq_one_iff, decide_eq_true_iff]

/-- A gather at a word reads the entry the word names, clipped to the array. -/
theorem atW_apply (x : IVec S16 32) (p : IVec S8 32) (t : Fin 8) (n : Nat) (hn : n < 2 ^ 31) (hp : p (ix1 t) = BitVec.ofNat 32 n) :
    atW x p (ix1 t) = x (ix1 ⟨min n 15, by omega⟩) := by
  have hsel : broadcastInDim S8x1 ![0] bcast_S8_S8x1_0
      (select (cmpi .slt p (broadcastInDim S8 ![] bcast_S_S8 (constantI S_ 32 0#32)))
        (addi p (broadcastInDim S8 ![] bcast_S_S8 (constantI S_ 32 16#32))) p) (ix2 t (0 : Fin 1)) = BitVec.ofNat 32 n := by
    refine (bcCol bcast_S8_S8x1_0 _ t).trans ?_
    show Scalar.select (IntOp.cmpi .slt (p (ix1 t)) 0#32) _ (p (ix1 t)) = _
    rw [hp]
    have : IntOp.cmpi .slt (BitVec.ofNat 32 n) 0#32 = 0#1 := by
      show BitVec.ofBool ((BitVec.ofNat 32 n).slt (BitVec.ofNat 32 0)) = _
      rw [slt_ofNat32 hn (by decide)]
      simp
    rw [this]
    rfl
  unfold atW
  rw [← ofFin_eq_ix1 t]
  refine (StableHlo.Predicate.gather_take gather_S16_S8x1_S8_n_0_n_n_0_1_1 rfl rfl rfl rfl x _ t (by decide)).trans ?_
  rw [ofFin_eq_ix1]
  refine congrArg (fun q : Fin 16 => x (ix1 q)) (Fin.ext ?_)
  show min (BitVec.toInt _).toNat 15 = min n 15
  rw [show StableHlo.Predicate.ixP t = ix2 t (0 : Fin 1) from ixP_eq_ix2 t, hsel, StableHlo.Predicate.toInt_ofNat_small _ hn]
  simp

/-- The word of the lower bound of block `t`. -/
theorem lobW_apply (t : Fin 8) : lobW ids (ix1 t) = BitVec.ofNat 32 (lobN ids t.val) := by
  have ht := t.isLt
  have h := offN_le ids (min (posN ids (256 * t.val)) 15) (by omega)
  unfold lobW blkW lobN
  refine pyDiv_ap bcast_S_S8 _ _ (ix1 t) ?_ rfl (by omega) (by decide) (by decide)
  rw [atW_apply _ _ t _ (by have := posN_le ids (256 * t.val); omega) (posW_apply ids rowW t _ (by omega) (rowW_apply t)), offW_apply]

/-- The word of the upper bound of block `t`. -/
theorem hibW_apply (t : Fin 8) : hibW ids (ix1 t) = BitVec.ofNat 32 (hibN ids t.val) := by
  have ht := t.isLt
  have h := endN_le ids (min (posN ids (256 * t.val + 255)) 15) (by omega)
  unfold hibW blkW hibN
  refine pyDiv_ap bcast_S_S8 _ _ (ix1 t) ?_ rfl (by omega) (by decide) (by decide)
  show atW (endW ids) (posW ids lastW) (ix1 t) + 256#32 - 1#32 = _
  rw [atW_apply _ _ t _ (by have := posN_le ids (256 * t.val + 255); omega) (posW_apply ids lastW t _ (by omega) (lastW_apply t)), endW_apply]
  apply BitVec.eq_of_toNat_eq
  simp only [BitVec.toNat_sub, BitVec.toNat_add, BitVec.toNat_ofNat]
  omega

/-- The key blocks of a query block are an interval of the eight. -/
theorem lobN_le_hibN (t : Nat) : lobN ids t ≤ hibN ids t := by
  unfold lobN hibN
  have h1 := posN_mono ids (show 256 * t ≤ 256 * t + 255 by omega)
  have h2 := offN_mono ids (show min (posN ids (256 * t)) 15 ≤ min (posN ids (256 * t + 255)) 15 by omega)
  have h3 := endN_eq ids (min (posN ids (256 * t + 255)) 15)
  omega

/-- The upper bound is at most the number of blocks. -/
theorem hibN_le (t : Nat) : hibN ids t ≤ 8 := by
  unfold hibN
  have := endN_le ids (min (posN ids (256 * t + 255)) 15) (by omega)
  omega

/-- For bounds inside the eight blocks the loop and its loads are in range. -/
theorem chk_small : ∀ a b : Fin 9, a ≤ b → k0_chk1 (BitVec.ofNat 32 a.val) (BitVec.ofNat 32 b.val) := by
  decide +kernel

/-- The words the host writes for query block `t` keep the body's loads in range. -/
theorem chk_host (t : Fin 8) : k0_chk1 (lobW ids (ix1 t)) (hibW ids (ix1 t)) := by
  rw [lobW_apply, hibW_apply]
  have h1 := lobN_le_hibN ids t.val
  have h2 := hibN_le ids t.val
  exact chk_small ⟨lobN ids t.val, by omega⟩ ⟨hibN ids t.val, by omega⟩ h1

end Words

end Cert.KernelIdeal.Hand
-- ==== Proof.HostRead.lean ====
module

public import proofs.«01_k».proof.Proof.HostWords
public import Idealize.ShloMosaic.Lib.StableHlo.RunRead
public import Idealize.ShloMosaic.Lib.Claim

@[expose] public section

set_option maxRecDepth 16384

noncomputable section

namespace Cert.KernelIdeal.Hand

open Idealize.ShloMosaic Idealize.ShloMosaic.TcCoe Idealize.ShloMosaic.Tactic Idealize.ShloMosaic.Routing
open Cert.KernelIdeal.Gen

variable {F : FTy → Type} [FloatOps F] [Named F]

set_option maxHeartbeats 2000000 in
/-- The buffer of first key blocks, at the kernel's entry. -/
theorem V_lob (m : (ℓ : Loc nD τ sig) → Buf (Elt F) ℓ) (c : Dev nD) :
    Gen.V m c main_call0_v40 = lobW (m ((c.tc : Thread nD τ).loc main_arg1)) := by
  unfold_abbrev_sides
  after_reads_simp
  simp -implicitDefEqProofs only [StableHlo.TRef.toBuf, StableHlo.TRef.ofBuf, cast_eq]
  simp only [lobW, hibW, lastW, blkW, topW, atW, posW, rowW, offW, endW, cntW, pyDiv, id]

set_option maxHeartbeats 2000000 in
/-- The buffer of blocks after the last key block, at the kernel's entry. -/
theorem V_hib (m : (ℓ : Loc nD τ sig) → Buf (Elt F) ℓ) (c : Dev nD) :
    Gen.V m c main_call0_v52 = hibW (m ((c.tc : Thread nD τ).loc main_arg1)) := by
  unfold_abbrev_sides
  after_reads_simp
  simp -implicitDefEqProofs only [StableHlo.TRef.toBuf, StableHlo.TRef.ofBuf, cast_eq]
  simp only [lobW, hibW, lastW, blkW, topW, atW, posW, rowW, offW, endW, cntW, pyDiv, id]

end Cert.KernelIdeal.Hand
-- ==== Proof.Conds.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.LoopRemainder

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The first point's condition. -/
abbrev cond0_0 (i : grid0.Coords) : Prop := (Scalar.cmpi .ne (Scalar.extui (Scalar.cmpi .eq (BitVec.ofNat 32 (i 0).val) 0#32)) 0#32) = 1#1
/-- The last point's condition. -/
abbrev cond0_1 (i : grid0.Coords) : Prop := k0_cond2 i = 1#1

end Cert.KernelIdeal.Hand
-- ==== Proof.Vals.lean ====
module

public import proofs.«01_k».proof.Proof.Conds
public import Idealize.ShloMosaic.Lib.ValueIdx
public import Idealize.ShloMosaic.Lib.ValueIdxCoords

@[expose] public section

set_option maxRecDepth 16384

noncomputable section

namespace Cert.KernelIdeal.Hand

open Idealize.ShloMosaic Idealize.ShloMosaic.ValueIdx
open Cert.KernelIdeal.Gen

variable {F : FTy → Type} [FloatOps F] [Named F]

/-- The row of all tokens that is row `a` of block `b`. -/
abbrev brow (b : ℕ) (a : Fin 256) : Fin 2048 := ⟨(256 * b + a.val) % 2048, Nat.mod_lt _ (by decide)⟩
/-- The column of the joint projection that is column `a` of head `h`'s queries. -/
abbrev qcol (h : Fin 8) (a : Fin 64) : Fin 1536 := ⟨64 * h.val + a.val, by omega⟩

/-- The number one the body compares with. -/
abbrev oneF : F .f32 := Scalar.ofBits .f32 0x3F800000#32

/-- The running group totals as a row, from the ids column. -/
def endsR (x3 : Vec F S2048x1 .f32) : FVec F S1x16 .f32 := k0_pay9 (k0_pay4 x3) k0_pay5 k0_pay6 (k0_pay7 (F := F)) oneF
/-- The running group totals as a column. -/
def endsC (x3 : Vec F S2048x1 .f32) : FVec F S16x1 .f32 := k0_pay10 (k0_pay4 x3) k0_pay5 k0_pay6 (k0_pay7 (F := F)) oneF
/-- The permutation matrix of the sort by group. -/
def ptV (x3 : Vec F S2048x1 .f32) : Vec F S2048x2048 .bf16 :=
  k0_pay15 (F := F) (k0_pay14 (k0_pay3 x3) (k0_pay4 x3) k0_pay5 k0_pay6 (k0_pay7 (F := F)) oneF k0_pay13)
/-- The sorted normalised rows. -/
def xsV (x2 : Vec F S2048x512 .f32) (x3 : Vec F S2048x1 .f32) (x4 x5 : Vec F S1x512 .f32) : Vec F S2048x512 .bf16 :=
  k0_pay16 (k0_pay2 x2 x4 x5) (ptV x3)
/-- The joint projection of the sorted rows. -/
def qkvV (x2 : Vec F S2048x512 .f32) (x3 : Vec F S2048x1 .f32) (x4 x5 : Vec F S1x512 .f32) (x6 : Vec F S1536x512 .f32) (x7 : Vec F S1x1536 .f32) :
    Vec F S2048x1536 .bf16 :=
  k0_pay71 (xsV x2 x3 x4 x5) (k0_pay28 x6) x7
/-- The group number of each sorted row, as a column. -/
def scolV (x3 : Vec F S2048x1 .f32) : Vec F S2048x1 .f32 := k0_pay17 (endsR x3) k0_pay11
/-- The group numbers of the sorted rows of block `b`, as a row. -/
def srowP (x3 : Vec F S2048x1 .f32) (b : Fin 8) : Vec F S1x1x256 .f32 :=
  match b with
  | ⟨0, _⟩ => k0_pay19 (k0_pay18 (endsC x3))
  | ⟨1, _⟩ => k0_pay20 (endsC x3)
  | ⟨2, _⟩ => k0_pay21 (endsC x3)
  | ⟨3, _⟩ => k0_pay23 (k0_pay22 (endsC x3)) oneF (Scalar.ofBits .f32 0x00000000#32)
  | ⟨4, _⟩ => k0_pay24 (endsC x3)
  | ⟨5, _⟩ => k0_pay25 (endsC x3)
  | ⟨6, _⟩ => k0_pay26 (endsC x3) (iota .tc S1x256 32 [1] iota_S1x256_d1_w32)
  | ⟨7, _⟩ => k0_pay27 (endsC x3)
/-- The group numbers of the sorted rows, eight blocks. -/
def srowV (x3 : Vec F S2048x1 .f32) : Vec F S8x1x256 .f32 := fun y => srowP x3 (y 0) (ix3 0 (y 1) (y 2))
/-- The rounded output projection. -/
def wpV (x8 : Vec F S512x512 .f32) : Vec F S512x512 .bf16 := k0_pay70 (k0_pay29 x8)

/-- What the block loop carries: the eight row sums and the eight weighted sums. -/
abbrev Carry (F : FTy → Type) : Type :=
  FVec F S256x1 .f32 × FVec F S256x1 .f32 × FVec F S256x1 .f32 × FVec F S256x1 .f32 × FVec F S256x1 .f32 × FVec F S256x1 .f32 × FVec F S256x1 .f32 × FVec F S256x1 .f32 ×
  FVec F S256x64 .f32 × FVec F S256x64 .f32 × FVec F S256x64 .f32 × FVec F S256x64 .f32 × FVec F S256x64 .f32 × FVec F S256x64 .f32 × FVec F S256x64 .f32 × FVec F S256x64 .f32

/-- One trip of the block loop, on the vectors it loads. -/
def tripV (q : Fin 8 → Vec F S256x64 .bf16) (sc : Vec F S256x1 .f32) (kv : Vec F S256x1536 .bf16) (sr : Vec F S1x1x256 .f32) (acc : Carry F) : Carry F :=
  (k0_pay32 (q 0) sc acc.1 kv sr,
   k0_pay35 (q 1) sc acc.2.1 kv sr,
   k0_pay40 acc.2.2.1 (k0_pay30 sc sr) (k0_pay38 (q 2) kv) (Named.named κ "mask" 0xF2177617#32),
   k0_pay43 (q 3) acc.2.2.2.1 kv (k0_pay30 sc sr),
   k0_pay46 (q 4) acc.2.2.2.2.1 kv (k0_pay30 sc sr),
   k0_pay88 acc.2.2.2.2.2.1 (k0_pay49 (q 5) kv (k0_pay30 sc sr)),
   k0_pay91 (q 6) acc.2.2.2.2.2.2.1 kv (k0_pay30 sc sr),
   k0_pay94 (q 7) acc.2.2.2.2.2.2.2.1 kv (k0_pay30 sc sr),
   k0_pay33 (q 0) sc acc.2.2.2.2.2.2.2.2.1 kv sr,
   k0_pay36 (q 1) sc acc.2.2.2.2.2.2.2.2.2.1 kv sr,
   k0_pay41 acc.2.2.2.2.2.2.2.2.2.2.1 (k0_pay30 sc sr) (k0_pay37 kv) (k0_pay38 (q 2) kv) (Named.named κ "mask" 0xF2177617#32),
   k0_pay44 (q 3) acc.2.2.2.2.2.2.2.2.2.2.2.1 kv (k0_pay30 sc sr),
   k0_pay47 (q 4) acc.2.2.2.2.2.2.2.2.2.2.2.2.1 kv (k0_pay30 sc sr),
   k0_pay89 acc.2.2.2.2.2.2.2.2.2.2.2.2.2.1 (k0_pay48 kv) (k0_pay49 (q 5) kv (k0_pay30 sc sr)),
   k0_pay92 (q 6) acc.2.2.2.2.2.2.2.2.2.2.2.2.2.2.1 kv (k0_pay30 sc sr),
   k0_pay95 (q 7) acc.2.2.2.2.2.2.2.2.2.2.2.2.2.2.2 kv (k0_pay30 sc sr))

/-- The carried value before the first trip: zeros. -/
def initV : Carry F :=
  (broadcast S256x1 (FloatOps.ofBits FTy.f32 0#32), broadcast S256x1 (FloatOps.ofBits FTy.f32 0#32), broadcast S256x1 (FloatOps.ofBits FTy.f32 0#32),
   broadcast S256x1 (FloatOps.ofBits FTy.f32 0#32), broadcast S256x1 (FloatOps.ofBits FTy.f32 0#32), broadcast S256x1 (FloatOps.ofBits FTy.f32 0#32),
   broadcast S256x1 (FloatOps.ofBits FTy.f32 0#32), broadcast S256x1 (FloatOps.ofBits FTy.f32 0#32),
   broadcast S256x64 (FloatOps.ofBits FTy.f32 0#32), broadcast S256x64 (FloatOps.ofBits FTy.f32 0#32), broadcast S256x64 (FloatOps.ofBits FTy.f32 0#32),
   broadcast S256x64 (FloatOps.ofBits FTy.f32 0#32), k0_pay84, k0_pay85, k0_pay86, k0_pay87)

/-- The queries of head `h` in block `t`. -/
def qBlk (A : Vec F S2048x1536 .bf16) (t : ℕ) (h : Fin 8) : Vec F S256x64 .bf16 := fun y => A (ix2 (brow t (y 0)) (qcol h (y 1)))
/-- The group numbers of block `t`. -/
def scBlk (S : Vec F S2048x1 .f32) (t : ℕ) : Vec F S256x1 .f32 := fun y => S (ix2 (brow t (y 0)) (y 1))
/-- The rows of block `b`. -/
def kvBlk (A : Vec F S2048x1536 .bf16) (b : ℕ) : Vec F S256x1536 .bf16 := fun y => A (ix2 (brow b (y 0)) (y 1))
/-- The group numbers of block `b`, as a row. -/
def srBlk (R : Vec F S8x1x256 .f32) (b : ℕ) : Vec F S1x1x256 .f32 := fun y => R (ix3 ⟨b % 8, Nat.mod_lt _ (by decide)⟩ (y 1) (y 2))

/-- The carried value after `n` trips from block `lo`. -/
def stV (q : Fin 8 → Vec F S256x64 .bf16) (sc : Vec F S256x1 .f32) (A : Vec F S2048x1536 .bf16) (R : Vec F S8x1x256 .f32) (init : Carry F) (lo : ℕ) : ℕ → Carry F
  | 0 => init
  | n + 1 => tripV q sc (kvBlk A (lo + n)) (srBlk R (lo + n)) (stV q sc A R init lo n)

/-- The block written from a carried value. -/
def outV (s : Carry F) (wp : Vec F S512x512 .bf16) : Vec F S256x512 .bf16 :=
  k0_pay105 s.2.1 s.2.2.1 s.2.2.2.1 s.2.2.2.2.1 s.2.2.2.2.2.1 s.2.2.2.2.2.2.1 s.2.2.2.2.2.2.2.1
    s.2.2.2.2.2.2.2.2.2.1 s.2.2.2.2.2.2.2.2.2.2.1 s.2.2.2.2.2.2.2.2.2.2.2.1 s.2.2.2.2.2.2.2.2.2.2.2.2.1 s.2.2.2.2.2.2.2.2.2.2.2.2.2.1
    s.2.2.2.2.2.2.2.2.2.2.2.2.2.2.1 s.2.2.2.2.2.2.2.2.2.2.2.2.2.2.2 (k0_pay104 s.1 s.2.2.2.2.2.2.2.2.1) wp

/-- The block of query block `t`, from the scratch contents and the loop bounds. -/
def blkV (A : Vec F S2048x1536 .bf16) (S : Vec F S2048x1 .f32) (R : Vec F S8x1x256 .f32) (wp : Vec F S512x512 .bf16) (lo hi t : ℕ) : Vec F S256x512 .bf16 :=
  outV (stV (qBlk A t) (scBlk S t) A R initV lo (hi - lo)) wp

end Cert.KernelIdeal.Hand
-- ==== Proof.LoopVal.lean ====
module

public import proofs.«01_k».proof.Proof.Vals
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F] [Named F]

local notation "𝕄" => MT nD τ sig Unit (Elt F) ℕ (UR sig nD τ) ℕ

section Windows
variable {Val : EltTy → Type}

/-- A window of rows of a block read from any contents of the projection. -/
theorem kv_window (A : Vec F S2048x1536 .bf16) (b : ℕ) (hb : b < 8) (inb : ∀ a, (![256 * b, 0] : Fin 2 → ℕ) a + S256x1536.size a ≤ S2048x1536.size a) :
    VecWindow.window (s := S2048x1536) A ![256 * b, 0] S256x1536.size inb = kvBlk A b := by
  funext y
  refine congrArg A (funext fun a => Fin.ext ?_)
  have h0 : (y 0).val < 256 := (y 0).isLt
  match a with
  | ⟨0, _⟩ => show 256 * b + 1 * (y 0).val = (256 * b + (y 0).val) % 2048; omega
  | ⟨1, _⟩ => show 0 + 1 * (y 1).val = (y 1).val; omega

/-- A window of one block of the group numbers laid out by rows. -/
theorem sr_window (R : Vec F S8x1x256 .f32) (b : ℕ) (hb : b < 8) (inb : ∀ a, (![b, 0, 0] : Fin 3 → ℕ) a + S1x1x256.size a ≤ S8x1x256.size a) :
    VecWindow.window (s := S8x1x256) R ![b, 0, 0] S1x1x256.size inb = srBlk R b := by
  funext y
  refine congrArg R (funext fun a => Fin.ext ?_)
  have h0 : (y 0).val < 1 := (y 0).isLt
  match a with
  | ⟨0, _⟩ => show b + 1 * (y 0).val = b % 8; omega
  | ⟨1, _⟩ => show 0 + 1 * (y 1).val = (y 1).val; omega
  | ⟨2, _⟩ => show 0 + 1 * (y 2).val = (y 2).val; omega

/-- A window of one head's queries of a block. -/
theorem q_window (A : Vec F S2048x1536 .bf16) (b : ℕ) (hb : b < 8) (h : Fin 8) (o : ℕ) (ho : o = 64 * h.val)
    (inb : ∀ a, (![256 * b, o] : Fin 2 → ℕ) a + S256x64.size a ≤ S2048x1536.size a) :
    VecWindow.window (s := S2048x1536) A ![256 * b, o] S256x64.size inb = qBlk A b h := by
  funext y
  refine congrArg A (funext fun a => Fin.ext ?_)
  have h0 : (y 0).val < 256 := (y 0).isLt
  match a with
  | ⟨0, _⟩ => show 256 * b + 1 * (y 0).val = (256 * b + (y 0).val) % 2048; omega
  | ⟨1, _⟩ => show o + 1 * (y 1).val = 64 * h.val + (y 1).val; omega

/-- A window of a block of the group numbers laid out as a column. -/
theorem sc_window (S : Vec F S2048x1 .f32) (b : ℕ) (hb : b < 8) (inb : ∀ a, (![256 * b, 0] : Fin 2 → ℕ) a + S256x1.size a ≤ S2048x1.size a) :
    VecWindow.window (s := S2048x1) S ![256 * b, 0] S256x1.size inb = scBlk S b := by
  funext y
  refine congrArg S (funext fun a => Fin.ext ?_)
  have h0 : (y 0).val < 256 := (y 0).isLt
  match a with
  | ⟨0, _⟩ => show 256 * b + 1 * (y 0).val = (256 * b + (y 0).val) % 2048; omega
  | ⟨1, _⟩ => show 0 + 1 * (y 1).val = (y 1).val; omega

end Windows

/-- The number of trips for bounds inside the eight blocks. -/
theorem trips_small : ∀ a b : Fin 9, a ≤ b → (k0_t1_loop (BitVec.ofNat 32 a.val) (BitVec.ofNat 32 b.val)).trips = b.val - a.val := by
  decide +kernel

/-- The trip count as the body writes it. -/
theorem trips_small' : ∀ a b : Fin 9, a ≤ b → Scf.trips (BitVec.ofNat 32 a.val) (Scalar.addi (BitVec.ofNat 32 a.val)
    (Scalar.muli (Scalar.divsi (Scalar.subi (BitVec.ofNat 32 b.val) (BitVec.ofNat 32 a.val)) 1#32) 1#32)) 1#32 = b.val - a.val := by
  decide +kernel

/-- The row offset of a trip's load. -/
theorem off_small : ∀ a k : Fin 9, (Scalar.indexCast (Scalar.muli (Scf.iv (BitVec.ofNat 32 a.val) 1#32 k.val) 256#32)).toNat = 256 * (a.val + k.val) := by
  decide +kernel

/-- The block offset of a trip's load. -/
theorem offb_small : ∀ a k : Fin 9, (Scalar.indexCast (Scf.iv (BitVec.ofNat 32 a.val) 1#32 k.val)).toNat = a.val + k.val := by
  decide +kernel

set_option maxHeartbeats 2000000 in
/-- One trip as the run names it is the trip on the vectors it loads. -/
theorem tripR_eq (𝒱 : Variants) (c : Dev nD) (bd : Option 𝒱.V) (i : grid0.Coords) (arg1 : Memref sig .tc .smem S8 .i32) (harg1 : arg1.IsWhole) (arg2 : Memref sig .tc .smem S8 .i32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1536x512 .f32) (harg7 : arg7.IsWhole) (arg8 : Memref sig .tc .vmem S1x1536 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S2048x512 .f32) (harg11 : arg11.IsWhole) (arg12 : Memref sig .tc .vmem S2048x512 .bf16) (harg12 : arg12.IsWhole) (arg13 : Memref sig .tc .vmem S2048x1536 .bf16) (harg13 : arg13.IsWhole) (arg14 : Memref sig .tc .vmem S2048x2048 .bf16) (harg14 : arg14.IsWhole) (arg15 : Memref sig .tc .vmem S2048x1 .f32) (harg15 : arg15.IsWhole) (arg16 : Memref sig .tc .vmem S8x1x256 .f32) (harg16 : arg16.IsWhole) (arg17 : Memref sig .tc .vmem S2048x512 .bf16) (harg17 : arg17.IsWhole) (arg18 : Memref sig .tc .vmem S1536x512 .bf16) (harg18 : arg18.IsWhole) (arg19 : Memref sig .tc .vmem S512x512 .bf16) (harg19 : arg19.IsWhole) (arg0 : BitVec 32) (v3 : BitVec 32) (v5 : Vec F S256x64 .bf16) (v7 : Vec F S256x64 .bf16) (v9 : Vec F S256x64 .bf16) (v11 : Vec F S256x64 .bf16) (v13 : Vec F S256x64 .bf16) (v15 : Vec F S256x64 .bf16) (v17 : Vec F S256x64 .bf16) (v19 : Vec F S256x64 .bf16) (v21 : Vec F S256x1 .f32) (v22 : FVec F S256x1 .f32) (v23 : FVec F S256x1 .f32) (v24 : FVec F S256x1 .f32) (v25 : FVec F S256x1 .f32) (v26 : FVec F S256x1 .f32) (v27 : FVec F S256x1 .f32) (v28 : FVec F S256x1 .f32) (v29 : FVec F S256x1 .f32) (v30 : FVec F S256x64 .f32) (v31 : FVec F S256x64 .f32) (v32 : FVec F S256x64 .f32) (v33 : FVec F S256x64 .f32) (v39 : Elt F .i32) (v41 : Elt F .i32) (k0_hw1 : k0_chk1 v39 v41) (X_arg13 : BufTy.Contents (Elt F) arg13.view.ty) (X_arg16 : BufTy.Contents (Elt F) arg16.view.ty) (k : Fin (k0_t1_loop v39 v41).trips) (acc : Carry F) :
    tripR_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v3 v5 v7 v9 v11 v13 v15 v17 v19 v21 v22 v23 v24 v25 v26 v27 v28 v29 v30 v31 v32 v33 v39 v41 k0_hw1 X_arg13 X_arg16 k acc
      = tripV ![v5, v7, v9, v11, v13, v15, v17, v19] v21
          (View.readAt (Elt F) arg13.view (Rect.unit (s := S2048x1536) (k0_off11 v39 v41 k) S256x1536.size (k0_off11_inb v39 v41 k0_hw1 k)).toLoadRect X_arg13)
          (View.readAt (Elt F) arg16.view (Rect.unit (s := S8x1x256) (k0_off12 v39 v41 k) S1x1x256.size (k0_off12_inb v39 v41 k0_hw1 k)).toLoadRect X_arg16) acc := by
  unfold tripR_k0_t1 trip_k0_t1
  sl_unfold_words
  rfl

set_option maxHeartbeats 2000000 in
/-- The loop's state after `n` trips, on the vectors it loads. -/
theorem st_eq (𝒱 : Variants) (c : Dev nD) (bd : Option 𝒱.V) (i : grid0.Coords) (arg1 : Memref sig .tc .smem S8 .i32) (harg1 : arg1.IsWhole) (arg2 : Memref sig .tc .smem S8 .i32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1536x512 .f32) (harg7 : arg7.IsWhole) (arg8 : Memref sig .tc .vmem S1x1536 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S2048x512 .f32) (harg11 : arg11.IsWhole) (arg12 : Memref sig .tc .vmem S2048x512 .bf16) (harg12 : arg12.IsWhole) (arg13 : Memref sig .tc .vmem S2048x1536 .bf16) (harg13 : arg13.IsWhole) (arg14 : Memref sig .tc .vmem S2048x2048 .bf16) (harg14 : arg14.IsWhole) (arg15 : Memref sig .tc .vmem S2048x1 .f32) (harg15 : arg15.IsWhole) (arg16 : Memref sig .tc .vmem S8x1x256 .f32) (harg16 : arg16.IsWhole) (arg17 : Memref sig .tc .vmem S2048x512 .bf16) (harg17 : arg17.IsWhole) (arg18 : Memref sig .tc .vmem S1536x512 .bf16) (harg18 : arg18.IsWhole) (arg19 : Memref sig .tc .vmem S512x512 .bf16) (harg19 : arg19.IsWhole) (arg0 : BitVec 32) (v3 : BitVec 32) (v5 : Vec F S256x64 .bf16) (v7 : Vec F S256x64 .bf16) (v9 : Vec F S256x64 .bf16) (v11 : Vec F S256x64 .bf16) (v13 : Vec F S256x64 .bf16) (v15 : Vec F S256x64 .bf16) (v17 : Vec F S256x64 .bf16) (v19 : Vec F S256x64 .bf16) (v21 : Vec F S256x1 .f32) (v22 : FVec F S256x1 .f32) (v23 : FVec F S256x1 .f32) (v24 : FVec F S256x1 .f32) (v25 : FVec F S256x1 .f32) (v26 : FVec F S256x1 .f32) (v27 : FVec F S256x1 .f32) (v28 : FVec F S256x1 .f32) (v29 : FVec F S256x1 .f32) (v30 : FVec F S256x64 .f32) (v31 : FVec F S256x64 .f32) (v32 : FVec F S256x64 .f32) (v33 : FVec F S256x64 .f32) (lo hi : ℕ) (hlo : lo ≤ hi) (hhi : hi ≤ 8) (k0_hw1 : k0_chk1 (BitVec.ofNat 32 lo) (BitVec.ofNat 32 hi)) (X_arg13 : BufTy.Contents (Elt F) arg13.view.ty) (X_arg16 : BufTy.Contents (Elt F) arg16.view.ty) (init : Carry F) (n : ℕ) (hn : n ≤ hi - lo) :
    st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v3 v5 v7 v9 v11 v13 v15 v17 v19 v21 v22 v23 v24 v25 v26 v27 v28 v29 v30 v31 v32 v33 (BitVec.ofNat 32 lo) (BitVec.ofNat 32 hi) k0_hw1 X_arg13 X_arg16 init n
      = stV ![v5, v7, v9, v11, v13, v15, v17, v19] v21 (arg13.view.read (Elt F) X_arg13) (arg16.view.read (Elt F) X_arg16) init lo n := by
  have ht := trips_small ⟨lo, by omega⟩ ⟨hi, by omega⟩ hlo
  induction n with
  | zero => rw [st_k0_t1.eq_1]; rfl
  | succ n ih =>
    have hk : n < (k0_t1_loop (BitVec.ofNat 32 lo) (BitVec.ofNat 32 hi)).trips := by rw [ht]; show n < hi - lo; omega
    refine (st_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v3 v5 v7 v9 v11 v13 v15 v17 v19 v21 v22 v23 v24 v25 v26 v27 v28 v29 v30 v31 v32 v33 (BitVec.ofNat 32 lo) (BitVec.ofNat 32 hi) k0_hw1 X_arg13 X_arg16 init ⟨n, hk⟩).trans ?_
    rw [tripR_eq, ih (by omega) ht]
    have e1 : k0_off11 (BitVec.ofNat 32 lo) (BitVec.ofNat 32 hi) ⟨n, hk⟩ = ![256 * (lo + n), 0] :=
      congrArg (fun x : ℕ => (![x, 0] : Fin 2 → ℕ)) (off_small ⟨lo, by omega⟩ ⟨n, by omega⟩)
    have e2 : k0_off12 (BitVec.ofNat 32 lo) (BitVec.ofNat 32 hi) ⟨n, hk⟩ = ![lo + n, 0, 0] :=
      congrArg (fun x : ℕ => (![x, 0, 0] : Fin 3 → ℕ)) (offb_small ⟨lo, by omega⟩ ⟨n, by omega⟩)
    rw [View.readAt_unit _ _ _ e1 (by rw [← e1]; exact k0_off11_inb _ _ k0_hw1 _), kv_window _ _ (by omega),
      View.readAt_unit _ _ _ e2 (by rw [← e2]; exact k0_off12_inb _ _ k0_hw1 _), sr_window _ _ (by omega)]
    rfl

end Cert.KernelIdeal.Hand
-- ==== Proof.Prol.lean ====
module

public import proofs.«01_k».proof.Proof.Vals
public import Idealize.ShloMosaic.Lib.VecWindow
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

section Reads
variable {κ : Kind} {sp : Space} {e : EltTy}

/-- A whole load of a 2048 by 512 view. -/
theorem rd_S2048x512 (v : View sig κ sp S2048x512 e) (f : v.ty.Contents (Elt F)) (inb : ∀ a, (![0, 0] : Fin 2 → ℕ) a + (![2048, 512] : Fin 2 → ℕ) a ≤ S2048x512.size a) :
    v.readAt (Elt F) (Rect.unit (s := S2048x512) ![0, 0] ![2048, 512] inb).toLoadRect f = v.read (Elt F) f := View.readAt_full v f inb
/-- A whole load of a 2048 by 512 view after a whole store. -/
theorem rc_S2048x512 [∀ e, Nonempty (Elt F e)] (v : View sig κ sp S2048x512 e) (inb inb' : ∀ a, (![0, 0] : Fin 2 → ℕ) a + (![2048, 512] : Fin 2 → ℕ) a ≤ S2048x512.size a)
    (w : S2048x512.Idx → Elt F e) (L : List (View.Piece (Elt F) S2048x512 e)) :
    v.readCov (⟨Rect.unit (s := S2048x512) ![0, 0] ![2048, 512] inb', w⟩ :: L) (Rect.unit (s := S2048x512) ![0, 0] ![2048, 512] inb).toLoadRect = w := View.readCov_full v inb inb' w L
/-- A whole load of a 1 by 512 view. -/
theorem rd_S1x512 (v : View sig κ sp S1x512 e) (f : v.ty.Contents (Elt F)) (inb : ∀ a, (![0, 0] : Fin 2 → ℕ) a + (![1, 512] : Fin 2 → ℕ) a ≤ S1x512.size a) :
    v.readAt (Elt F) (Rect.unit (s := S1x512) ![0, 0] ![1, 512] inb).toLoadRect f = v.read (Elt F) f := View.readAt_full v f inb
/-- A whole load of a 2048 by 1 view. -/
theorem rd_S2048x1 (v : View sig κ sp S2048x1 e) (f : v.ty.Contents (Elt F)) (inb : ∀ a, (![0, 0] : Fin 2 → ℕ) a + (![2048, 1] : Fin 2 → ℕ) a ≤ S2048x1.size a) :
    v.readAt (Elt F) (Rect.unit (s := S2048x1) ![0, 0] ![2048, 1] inb).toLoadRect f = v.read (Elt F) f := View.readAt_full v f inb
/-- A whole load of a 2048 by 1 view after a whole store. -/
theorem rc_S2048x1 [∀ e, Nonempty (Elt F e)] (v : View sig κ sp S2048x1 e) (inb inb' : ∀ a, (![0, 0] : Fin 2 → ℕ) a + (![2048, 1] : Fin 2 → ℕ) a ≤ S2048x1.size a)
    (w : S2048x1.Idx → Elt F e) (L : List (View.Piece (Elt F) S2048x1 e)) :
    v.readCov (⟨Rect.unit (s := S2048x1) ![0, 0] ![2048, 1] inb', w⟩ :: L) (Rect.unit (s := S2048x1) ![0, 0] ![2048, 1] inb).toLoadRect = w := View.readCov_full v inb inb' w L
/-- A whole load of a 512 by 512 view. -/
theorem rd_S512x512 (v : View sig κ sp S512x512 e) (f : v.ty.Contents (Elt F)) (inb : ∀ a, (![0, 0] : Fin 2 → ℕ) a + (![512, 512] : Fin 2 → ℕ) a ≤ S512x512.size a) :
    v.readAt (Elt F) (Rect.unit (s := S512x512) ![0, 0] ![512, 512] inb).toLoadRect f = v.read (Elt F) f := View.readAt_full v f inb
/-- A whole load of a 512 by 512 view after a whole store. -/
theorem rc_S512x512 [∀ e, Nonempty (Elt F e)] (v : View sig κ sp S512x512 e) (inb inb' : ∀ a, (![0, 0] : Fin 2 → ℕ) a + (![512, 512] : Fin 2 → ℕ) a ≤ S512x512.size a)
    (w : S512x512.Idx → Elt F e) (L : List (View.Piece (Elt F) S512x512 e)) :
    v.readCov (⟨Rect.unit (s := S512x512) ![0, 0] ![512, 512] inb', w⟩ :: L) (Rect.unit (s := S512x512) ![0, 0] ![512, 512] inb).toLoadRect = w := View.readCov_full v inb inb' w L
/-- A whole load of a 1536 by 512 view. -/
theorem rd_S1536x512 (v : View sig κ sp S1536x512 e) (f : v.ty.Contents (Elt F)) (inb : ∀ a, (![0, 0] : Fin 2 → ℕ) a + (![1536, 512] : Fin 2 → ℕ) a ≤ S1536x512.size a) :
    v.readAt (Elt F) (Rect.unit (s := S1536x512) ![0, 0] ![1536, 512] inb).toLoadRect f = v.read (Elt F) f := View.readAt_full v f inb
/-- A whole load of a 1536 by 512 view after a whole store. -/
theorem rc_S1536x512 [∀ e, Nonempty (Elt F e)] (v : View sig κ sp S1536x512 e) (inb inb' : ∀ a, (![0, 0] : Fin 2 → ℕ) a + (![1536, 512] : Fin 2 → ℕ) a ≤ S1536x512.size a)
    (w : S1536x512.Idx → Elt F e) (L : List (View.Piece (Elt F) S1536x512 e)) :
    v.readCov (⟨Rect.unit (s := S1536x512) ![0, 0] ![1536, 512] inb', w⟩ :: L) (Rect.unit (s := S1536x512) ![0, 0] ![1536, 512] inb).toLoadRect = w := View.readCov_full v inb inb' w L
/-- A whole load of a 1 by 1536 view. -/
theorem rd_S1x1536 (v : View sig κ sp S1x1536 e) (f : v.ty.Contents (Elt F)) (inb : ∀ a, (![0, 0] : Fin 2 → ℕ) a + (![1, 1536] : Fin 2 → ℕ) a ≤ S1x1536.size a) :
    v.readAt (Elt F) (Rect.unit (s := S1x1536) ![0, 0] ![1, 1536] inb).toLoadRect f = v.read (Elt F) f := View.readAt_full v f inb
/-- A whole load of a 2048 by 1536 view. -/
theorem rd_S2048x1536 (v : View sig κ sp S2048x1536 e) (f : v.ty.Contents (Elt F)) (inb : ∀ a, (![0, 0] : Fin 2 → ℕ) a + (![2048, 1536] : Fin 2 → ℕ) a ≤ S2048x1536.size a) :
    v.readAt (Elt F) (Rect.unit (s := S2048x1536) ![0, 0] ![2048, 1536] inb).toLoadRect f = v.read (Elt F) f := View.readAt_full v f inb
/-- A whole load of a 2048 by 1536 view after a whole store. -/
theorem rc_S2048x1536 [∀ e, Nonempty (Elt F e)] (v : View sig κ sp S2048x1536 e) (inb inb' : ∀ a, (![0, 0] : Fin 2 → ℕ) a + (![2048, 1536] : Fin 2 → ℕ) a ≤ S2048x1536.size a)
    (w : S2048x1536.Idx → Elt F e) (L : List (View.Piece (Elt F) S2048x1536 e)) :
    v.readCov (⟨Rect.unit (s := S2048x1536) ![0, 0] ![2048, 1536] inb', w⟩ :: L) (Rect.unit (s := S2048x1536) ![0, 0] ![2048, 1536] inb).toLoadRect = w := View.readCov_full v inb inb' w L
/-- A whole load of a 2048 by 2048 view. -/
theorem rd_S2048x2048 (v : View sig κ sp S2048x2048 e) (f : v.ty.Contents (Elt F)) (inb : ∀ a, (![0, 0] : Fin 2 → ℕ) a + (![2048, 2048] : Fin 2 → ℕ) a ≤ S2048x2048.size a) :
    v.readAt (Elt F) (Rect.unit (s := S2048x2048) ![0, 0] ![2048, 2048] inb).toLoadRect f = v.read (Elt F) f := View.readAt_full v f inb
/-- A whole load of a 2048 by 2048 view after a whole store. -/
theorem rc_S2048x2048 [∀ e, Nonempty (Elt F e)] (v : View sig κ sp S2048x2048 e) (inb inb' : ∀ a, (![0, 0] : Fin 2 → ℕ) a + (![2048, 2048] : Fin 2 → ℕ) a ≤ S2048x2048.size a)
    (w : S2048x2048.Idx → Elt F e) (L : List (View.Piece (Elt F) S2048x2048 e)) :
    v.readCov (⟨Rect.unit (s := S2048x2048) ![0, 0] ![2048, 2048] inb', w⟩ :: L) (Rect.unit (s := S2048x2048) ![0, 0] ![2048, 2048] inb).toLoadRect = w := View.readCov_full v inb inb' w L
end Reads

set_option sl_exec.numerals false in
set_option maxHeartbeats 2000000 in
/-- The normalised rows and the membership sums. -/
theorem part1_run (c : Dev nD) (i : grid0.Coords) (arg1 : Memref sig .tc .smem S8 .i32) (harg1 : arg1.IsWhole) (arg2 : Memref sig .tc .smem S8 .i32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1536x512 .f32) (harg7 : arg7.IsWhole) (arg8 : Memref sig .tc .vmem S1x1536 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S2048x512 .f32) (harg11 : arg11.IsWhole) (arg12 : Memref sig .tc .vmem S2048x512 .bf16) (harg12 : arg12.IsWhole) (arg13 : Memref sig .tc .vmem S2048x1536 .bf16) (harg13 : arg13.IsWhole) (arg14 : Memref sig .tc .vmem S2048x2048 .bf16) (harg14 : arg14.IsWhole) (arg15 : Memref sig .tc .vmem S2048x1 .f32) (harg15 : arg15.IsWhole) (arg16 : Memref sig .tc .vmem S8x1x256 .f32) (harg16 : arg16.IsWhole) (arg17 : Memref sig .tc .vmem S2048x512 .bf16) (harg17 : arg17.IsWhole) (arg18 : Memref sig .tc .vmem S1536x512 .bf16) (harg18 : arg18.IsWhole) (arg19 : Memref sig .tc .vmem S512x512 .bf16) (harg19 : arg19.IsWhole)
    (x2 : Vec F S2048x512 .f32) (x3 : Vec F S2048x1 .f32) (x4 : Vec F S1x512 .f32) (x5 : Vec F S1x512 .f32) (E : Set ℕ) (K : (Σ' (v109 : FVec F S2048x512 .bf16) (v119 : FVec F S2048x16 .f32) (v121 : FVec F S1x16 .f32) (v123 : FVec F S16x16 .f32) (v125 : FVec F S16x16 .f32) (v126 : IVec S16x16 1), F .f32) → sProp 𝕄) :
    iprop(owns (c : Thread nD τ) arg3 fullShare x2 ∗ owns (c : Thread nD τ) arg4 fullShare x3 ∗ owns (c : Thread nD τ) arg5 fullShare x4 ∗ owns (c : Thread nD τ) arg6 fullShare x5
        ∗ (iprop(owns (c : Thread nD τ) arg3 fullShare x2 ∗ owns (c : Thread nD τ) arg4 fullShare x3 ∗ owns (c : Thread nD τ) arg5 fullShare x4 ∗ owns (c : Thread nD τ) arg6 fullShare x5) -∗ K ⟨k0_pay2 x2 x4 x5, k0_pay3 x3, k0_pay4 x3, k0_pay5 (F := F), k0_pay6 (F := F), k0_pay7 (F := F), oneF⟩))
      ⊢ wp frame (wpE (defs₀ (F := F)) Variants.none c none) E (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 ) K := by
  simp only [k0_part1_eq_skeleton]; unfold k0_part1_skel
  unfold owns
  iintro ⟨⟨%g3, %hg3, H3⟩, ⟨%g4, %hg4, H4⟩, ⟨%g5, %hg5, H5⟩, ⟨%g6, %hg6, H6⟩, Hk⟩
  obtain rfl := harg3.eq_unread hg3; obtain rfl := harg4.eq_unread hg4; obtain rfl := harg5.eq_unread hg5; obtain rfl := harg6.eq_unread hg6
  sl_exec
  sl_step
  sl_unfold_words
  try simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread]
  iapply Hk
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  iexists _; isplitr; swap; · iexact H6
  ipureintro; exact harg6.read_unread _

set_option sl_exec.numerals false in
set_option maxHeartbeats 2000000 in
/-- The group totals and the places. -/
theorem part2_run (c : Dev nD) (i : grid0.Coords) (arg1 : Memref sig .tc .smem S8 .i32) (harg1 : arg1.IsWhole) (arg2 : Memref sig .tc .smem S8 .i32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1536x512 .f32) (harg7 : arg7.IsWhole) (arg8 : Memref sig .tc .vmem S1x1536 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S2048x512 .f32) (harg11 : arg11.IsWhole) (arg12 : Memref sig .tc .vmem S2048x512 .bf16) (harg12 : arg12.IsWhole) (arg13 : Memref sig .tc .vmem S2048x1536 .bf16) (harg13 : arg13.IsWhole) (arg14 : Memref sig .tc .vmem S2048x2048 .bf16) (harg14 : arg14.IsWhole) (arg15 : Memref sig .tc .vmem S2048x1 .f32) (harg15 : arg15.IsWhole) (arg16 : Memref sig .tc .vmem S8x1x256 .f32) (harg16 : arg16.IsWhole) (arg17 : Memref sig .tc .vmem S2048x512 .bf16) (harg17 : arg17.IsWhole) (arg18 : Memref sig .tc .vmem S1536x512 .bf16) (harg18 : arg18.IsWhole) (arg19 : Memref sig .tc .vmem S512x512 .bf16) (harg19 : arg19.IsWhole) (v119 : FVec F S2048x16 .f32) (v121 : FVec F S1x16 .f32) (v123 : FVec F S16x16 .f32) (v125 : FVec F S16x16 .f32) (v126 : IVec S16x16 1) (cst_40 : F .f32)
    (z14 : Vec F S2048x2048 .bf16) (E : Set ℕ) (K : (Σ' (v141 : FVec F S1x16 .f32) (v146 : FVec F S16x1 .f32) (v148 : FVec F S2048x1 .f32), IVec S2048x2048 1) → sProp 𝕄) :
    iprop(owns (c : Thread nD τ) arg14 fullShare z14
        ∗ (iprop(owns (c : Thread nD τ) arg14 fullShare (k0_pay13 (F := F))) -∗ K ⟨k0_pay9 v121 v123 v125 v126 cst_40, k0_pay10 v121 v123 v125 v126 cst_40, k0_pay11 (F := F), k0_pay14 v119 v121 v123 v125 v126 cst_40 (k0_pay13 (F := F))⟩))
      ⊢ wp frame (wpE (defs₀ (F := F)) Variants.none c none) E (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v119 v121 v123 v125 v126 cst_40) K := by
  simp only [k0_part2_eq_skeleton]; unfold k0_part2_skel
  unfold owns
  iintro ⟨⟨%g14, %hg14, H14⟩, Hk⟩
  obtain rfl := harg14.eq_unread hg14
  sl_exec
  sl_step
  sl_unfold_words
  try simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread]
  iapply Hk
  iexists _; isplitr; swap; · iexact H14
  ipureintro; sl_unfold_words; refine (View.read_writes_full _ _ _ _ _).trans ?_; try simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread]

set_option sl_exec.numerals false in
set_option maxHeartbeats 2000000 in
/-- The permutation matrix, the sorted rows and the group numbers as a column. -/
theorem part3_run (c : Dev nD) (i : grid0.Coords) (arg1 : Memref sig .tc .smem S8 .i32) (harg1 : arg1.IsWhole) (arg2 : Memref sig .tc .smem S8 .i32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1536x512 .f32) (harg7 : arg7.IsWhole) (arg8 : Memref sig .tc .vmem S1x1536 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S2048x512 .f32) (harg11 : arg11.IsWhole) (arg12 : Memref sig .tc .vmem S2048x512 .bf16) (harg12 : arg12.IsWhole) (arg13 : Memref sig .tc .vmem S2048x1536 .bf16) (harg13 : arg13.IsWhole) (arg14 : Memref sig .tc .vmem S2048x2048 .bf16) (harg14 : arg14.IsWhole) (arg15 : Memref sig .tc .vmem S2048x1 .f32) (harg15 : arg15.IsWhole) (arg16 : Memref sig .tc .vmem S8x1x256 .f32) (harg16 : arg16.IsWhole) (arg17 : Memref sig .tc .vmem S2048x512 .bf16) (harg17 : arg17.IsWhole) (arg18 : Memref sig .tc .vmem S1536x512 .bf16) (harg18 : arg18.IsWhole) (arg19 : Memref sig .tc .vmem S512x512 .bf16) (harg19 : arg19.IsWhole) (v109 : FVec F S2048x512 .bf16) (v141 : FVec F S1x16 .f32) (v146 : FVec F S16x1 .f32) (v148 : FVec F S2048x1 .f32) (v171 : IVec S2048x2048 1)
    (z12 : Vec F S2048x512 .bf16) (z14 : Vec F S2048x2048 .bf16) (z15 : Vec F S2048x1 .f32) (E : Set ℕ) (K : (FVec F S1x256 .f32) → sProp 𝕄) :
    iprop(owns (c : Thread nD τ) arg12 fullShare z12 ∗ owns (c : Thread nD τ) arg14 fullShare z14 ∗ owns (c : Thread nD τ) arg15 fullShare z15
        ∗ (iprop(owns (c : Thread nD τ) arg12 fullShare (k0_pay16 v109 (k0_pay15 (F := F) v171)) ∗ owns (c : Thread nD τ) arg14 fullShare (k0_pay15 (F := F) v171) ∗ owns (c : Thread nD τ) arg15 fullShare (k0_pay17 v141 v148)) -∗ K (k0_pay18 v146)))
      ⊢ wp frame (wpE (defs₀ (F := F)) Variants.none c none) E (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v109 v141 v146 v148 v171) K := by
  simp only [k0_part3_eq_skeleton]; unfold k0_part3_skel
  unfold owns
  iintro ⟨⟨%g12, %hg12, H12⟩, ⟨%g14, %hg14, H14⟩, ⟨%g15, %hg15, H15⟩, Hk⟩
  obtain rfl := harg12.eq_unread hg12; obtain rfl := harg14.eq_unread hg14; obtain rfl := harg15.eq_unread hg15
  sl_exec
  sl_step
  sl_unfold_words
  try simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread]
  iapply Hk
  isplitl [H12]
  · iexists _; isplitr; swap; · iexact H12
    ipureintro; sl_unfold_words; refine (View.read_writes_full _ _ _ _ _).trans ?_; try simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread]
  isplitl [H14]
  · iexists _; isplitr; swap; · iexact H14
    ipureintro; sl_unfold_words; refine (View.read_writes_full _ _ _ _ _).trans ?_; try simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread]
  iexists _; isplitr; swap; · iexact H15
  ipureintro; sl_unfold_words; refine (View.read_writes_full _ _ _ _ _).trans ?_; try simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread]

set_option sl_exec.numerals false in
set_option maxHeartbeats 2000000 in
/-- The first three blocks of the group numbers as rows. -/
theorem part4_run (c : Dev nD) (i : grid0.Coords) (arg1 : Memref sig .tc .smem S8 .i32) (harg1 : arg1.IsWhole) (arg2 : Memref sig .tc .smem S8 .i32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1536x512 .f32) (harg7 : arg7.IsWhole) (arg8 : Memref sig .tc .vmem S1x1536 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S2048x512 .f32) (harg11 : arg11.IsWhole) (arg12 : Memref sig .tc .vmem S2048x512 .bf16) (harg12 : arg12.IsWhole) (arg13 : Memref sig .tc .vmem S2048x1536 .bf16) (harg13 : arg13.IsWhole) (arg14 : Memref sig .tc .vmem S2048x2048 .bf16) (harg14 : arg14.IsWhole) (arg15 : Memref sig .tc .vmem S2048x1 .f32) (harg15 : arg15.IsWhole) (arg16 : Memref sig .tc .vmem S8x1x256 .f32) (harg16 : arg16.IsWhole) (arg17 : Memref sig .tc .vmem S2048x512 .bf16) (harg17 : arg17.IsWhole) (arg18 : Memref sig .tc .vmem S1536x512 .bf16) (harg18 : arg18.IsWhole) (arg19 : Memref sig .tc .vmem S512x512 .bf16) (harg19 : arg19.IsWhole) (v146 : FVec F S16x1 .f32) (v207 : FVec F S1x256 .f32)
    (z16 : Vec F S8x1x256 .f32) (E : Set ℕ) (K : (Σ' (v247 : IVec S16x256 1) (cst_89 : F .f32), F .f32) → sProp 𝕄) :
    iprop(owns (c : Thread nD τ) arg16 fullShare z16
        ∗ (iprop(owns (c : Thread nD τ) arg16 fullShare (VecWindow.put (s := S8x1x256) (VecWindow.put (s := S8x1x256) (VecWindow.put (s := S8x1x256) z16 ![0, 0, 0] S1x1x256.size (k0_pay19 v207)) ![1, 0, 0] S1x1x256.size (k0_pay20 v146)) ![2, 0, 0] S1x1x256.size (k0_pay21 v146))) -∗ K ⟨k0_pay22 v146, Scalar.ofBits .f32 0x3F800000#32, Scalar.ofBits .f32 0x00000000#32⟩))
      ⊢ wp frame (wpE (defs₀ (F := F)) Variants.none c none) E (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v146 v207) K := by
  simp only [k0_part4_eq_skeleton]; unfold k0_part4_skel
  unfold owns
  iintro ⟨⟨%g16, %hg16, H16⟩, Hk⟩
  obtain rfl := harg16.eq_unread hg16
  sl_exec
  sl_step
  sl_unfold_words
  try simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread]
  iapply Hk
  iexists _; isplitr; swap; · iexact H16
  ipureintro; sl_unfold_words; refine ((View.read_writes_cons_put _ _ _ _ _ rfl).trans (congrArg (fun z => VecWindow.put (s := S8x1x256) z _ _ _) ((View.read_writes_cons_put _ _ _ _ _ rfl).trans (congrArg (fun z => VecWindow.put (s := S8x1x256) z _ _ _) ((View.read_writes_cons_put _ _ _ _ _ rfl).trans (congrArg (fun z => VecWindow.put (s := S8x1x256) z _ _ _) (harg16.read_unread _)))))))

set_option sl_exec.numerals false in
set_option maxHeartbeats 2000000 in
/-- The next three blocks of the group numbers as rows. -/
theorem part5_run (c : Dev nD) (i : grid0.Coords) (arg1 : Memref sig .tc .smem S8 .i32) (harg1 : arg1.IsWhole) (arg2 : Memref sig .tc .smem S8 .i32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1536x512 .f32) (harg7 : arg7.IsWhole) (arg8 : Memref sig .tc .vmem S1x1536 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S2048x512 .f32) (harg11 : arg11.IsWhole) (arg12 : Memref sig .tc .vmem S2048x512 .bf16) (harg12 : arg12.IsWhole) (arg13 : Memref sig .tc .vmem S2048x1536 .bf16) (harg13 : arg13.IsWhole) (arg14 : Memref sig .tc .vmem S2048x2048 .bf16) (harg14 : arg14.IsWhole) (arg15 : Memref sig .tc .vmem S2048x1 .f32) (harg15 : arg15.IsWhole) (arg16 : Memref sig .tc .vmem S8x1x256 .f32) (harg16 : arg16.IsWhole) (arg17 : Memref sig .tc .vmem S2048x512 .bf16) (harg17 : arg17.IsWhole) (arg18 : Memref sig .tc .vmem S1536x512 .bf16) (harg18 : arg18.IsWhole) (arg19 : Memref sig .tc .vmem S512x512 .bf16) (harg19 : arg19.IsWhole) (v146 : FVec F S16x1 .f32) (v247 : IVec S16x256 1) (cst_89 : F .f32) (cst_90 : F .f32)
    (z16 : Vec F S8x1x256 .f32) (E : Set ℕ) (K : (IVec S1x256 32) → sProp 𝕄) :
    iprop(owns (c : Thread nD τ) arg16 fullShare z16
        ∗ (iprop(owns (c : Thread nD τ) arg16 fullShare (VecWindow.put (s := S8x1x256) (VecWindow.put (s := S8x1x256) (VecWindow.put (s := S8x1x256) z16 ![3, 0, 0] S1x1x256.size (k0_pay23 v247 cst_89 cst_90)) ![4, 0, 0] S1x1x256.size (k0_pay24 v146)) ![5, 0, 0] S1x1x256.size (k0_pay25 v146))) -∗ K (iota .tc S1x256 32 [1] iota_S1x256_d1_w32)))
      ⊢ wp frame (wpE (defs₀ (F := F)) Variants.none c none) E (k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v146 v247 cst_89 cst_90) K := by
  simp only [k0_part5_eq_skeleton]; unfold k0_part5_skel
  unfold owns
  iintro ⟨⟨%g16, %hg16, H16⟩, Hk⟩
  obtain rfl := harg16.eq_unread hg16
  sl_exec
  sl_step
  sl_unfold_words
  try simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread]
  iapply Hk
  iexists _; isplitr; swap; · iexact H16
  ipureintro; sl_unfold_words; refine ((View.read_writes_cons_put _ _ _ _ _ rfl).trans (congrArg (fun z => VecWindow.put (s := S8x1x256) z _ _ _) ((View.read_writes_cons_put _ _ _ _ _ rfl).trans (congrArg (fun z => VecWindow.put (s := S8x1x256) z _ _ _) ((View.read_writes_cons_put _ _ _ _ _ rfl).trans (congrArg (fun z => VecWindow.put (s := S8x1x256) z _ _ _) (harg16.read_unread _)))))))

set_option sl_exec.numerals false in
set_option maxHeartbeats 2000000 in
/-- The last two blocks of the group numbers as rows, and the rounded weights. -/
theorem part6_run (c : Dev nD) (i : grid0.Coords) (arg1 : Memref sig .tc .smem S8 .i32) (harg1 : arg1.IsWhole) (arg2 : Memref sig .tc .smem S8 .i32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1536x512 .f32) (harg7 : arg7.IsWhole) (arg8 : Memref sig .tc .vmem S1x1536 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S2048x512 .f32) (harg11 : arg11.IsWhole) (arg12 : Memref sig .tc .vmem S2048x512 .bf16) (harg12 : arg12.IsWhole) (arg13 : Memref sig .tc .vmem S2048x1536 .bf16) (harg13 : arg13.IsWhole) (arg14 : Memref sig .tc .vmem S2048x2048 .bf16) (harg14 : arg14.IsWhole) (arg15 : Memref sig .tc .vmem S2048x1 .f32) (harg15 : arg15.IsWhole) (arg16 : Memref sig .tc .vmem S8x1x256 .f32) (harg16 : arg16.IsWhole) (arg17 : Memref sig .tc .vmem S2048x512 .bf16) (harg17 : arg17.IsWhole) (arg18 : Memref sig .tc .vmem S1536x512 .bf16) (harg18 : arg18.IsWhole) (arg19 : Memref sig .tc .vmem S512x512 .bf16) (harg19 : arg19.IsWhole) (v146 : FVec F S16x1 .f32) (v286 : IVec S1x256 32)
    (x6 : Vec F S1536x512 .f32) (x8 : Vec F S512x512 .f32) (z16 : Vec F S8x1x256 .f32) (z18 : Vec F S1536x512 .bf16) (E : Set ℕ) (K : (FVec F S512x512 .bf16) → sProp 𝕄) :
    iprop(owns (c : Thread nD τ) arg7 fullShare x6 ∗ owns (c : Thread nD τ) arg9 fullShare x8 ∗ owns (c : Thread nD τ) arg16 fullShare z16 ∗ owns (c : Thread nD τ) arg18 fullShare z18
        ∗ (iprop(owns (c : Thread nD τ) arg7 fullShare x6 ∗ owns (c : Thread nD τ) arg9 fullShare x8 ∗ owns (c : Thread nD τ) arg16 fullShare (VecWindow.put (s := S8x1x256) (VecWindow.put (s := S8x1x256) z16 ![6, 0, 0] S1x1x256.size (k0_pay26 v146 v286)) ![7, 0, 0] S1x1x256.size (k0_pay27 v146)) ∗ owns (c : Thread nD τ) arg18 fullShare (k0_pay28 x6)) -∗ K (k0_pay29 x8)))
      ⊢ wp frame (wpE (defs₀ (F := F)) Variants.none c none) E (k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v146 v286) K := by
  simp only [k0_part6_eq_skeleton]; unfold k0_part6_skel
  unfold owns
  iintro ⟨⟨%g7, %hg7, H7⟩, ⟨%g9, %hg9, H9⟩, ⟨%g16, %hg16, H16⟩, ⟨%g18, %hg18, H18⟩, Hk⟩
  obtain rfl := harg7.eq_unread hg7; obtain rfl := harg9.eq_unread hg9; obtain rfl := harg16.eq_unread hg16; obtain rfl := harg18.eq_unread hg18
  sl_exec
  sl_step
  sl_unfold_words
  try simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread]
  iapply Hk
  isplitl [H7]
  · iexists _; isplitr; swap; · iexact H7
    ipureintro; exact harg7.read_unread _
  isplitl [H9]
  · iexists _; isplitr; swap; · iexact H9
    ipureintro; exact harg9.read_unread _
  isplitl [H16]
  · iexists _; isplitr; swap; · iexact H16
    ipureintro; sl_unfold_words; refine ((View.read_writes_cons_put _ _ _ _ _ rfl).trans (congrArg (fun z => VecWindow.put (s := S8x1x256) z _ _ _) ((View.read_writes_cons_put _ _ _ _ _ rfl).trans (congrArg (fun z => VecWindow.put (s := S8x1x256) z _ _ _) (harg16.read_unread _)))))
  iexists _; isplitr; swap; · iexact H18
  ipureintro; sl_unfold_words; refine (View.read_writes_full _ _ _ _ _).trans ?_; try simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread]

end Cert.KernelIdeal.Hand
-- ==== Proof.Blk.lean ====
module

public import proofs.«01_k».proof.Proof.LoopVal
public import proofs.«01_k».proof.Proof.Prol

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F] [Named F]

local notation "𝕄" => MT nD τ sig Unit (Elt F) ℕ (UR sig nD τ) ℕ

set_option maxHeartbeats 2000000 in
/-- What the loop leaves, from what the loads read. -/
theorem st_all (𝒱 : Variants) (c : Dev nD) (bd : Option 𝒱.V) (i : grid0.Coords) (arg1 : Memref sig .tc .smem S8 .i32) (harg1 : arg1.IsWhole) (arg2 : Memref sig .tc .smem S8 .i32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1536x512 .f32) (harg7 : arg7.IsWhole) (arg8 : Memref sig .tc .vmem S1x1536 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S2048x512 .f32) (harg11 : arg11.IsWhole) (arg12 : Memref sig .tc .vmem S2048x512 .bf16) (harg12 : arg12.IsWhole) (arg13 : Memref sig .tc .vmem S2048x1536 .bf16) (harg13 : arg13.IsWhole) (arg14 : Memref sig .tc .vmem S2048x2048 .bf16) (harg14 : arg14.IsWhole) (arg15 : Memref sig .tc .vmem S2048x1 .f32) (harg15 : arg15.IsWhole) (arg16 : Memref sig .tc .vmem S8x1x256 .f32) (harg16 : arg16.IsWhole) (arg17 : Memref sig .tc .vmem S2048x512 .bf16) (harg17 : arg17.IsWhole) (arg18 : Memref sig .tc .vmem S1536x512 .bf16) (harg18 : arg18.IsWhole) (arg19 : Memref sig .tc .vmem S512x512 .bf16) (harg19 : arg19.IsWhole) (arg0 v3 : BitVec 32) (v5 : Vec F S256x64 .bf16) (v7 : Vec F S256x64 .bf16) (v9 : Vec F S256x64 .bf16) (v11 : Vec F S256x64 .bf16) (v13 : Vec F S256x64 .bf16) (v15 : Vec F S256x64 .bf16) (v17 : Vec F S256x64 .bf16) (v19 : Vec F S256x64 .bf16) (v21 : Vec F S256x1 .f32) (v22 : FVec F S256x1 .f32) (v23 : FVec F S256x1 .f32) (v24 : FVec F S256x1 .f32) (v25 : FVec F S256x1 .f32) (v26 : FVec F S256x1 .f32) (v27 : FVec F S256x1 .f32) (v28 : FVec F S256x1 .f32) (v29 : FVec F S256x1 .f32) (v30 : FVec F S256x64 .f32) (v31 : FVec F S256x64 .f32) (v32 : FVec F S256x64 .f32) (v33 : FVec F S256x64 .f32)
    (w1 w2 : Elt F .i32) (hchk : k0_chk1 w1 w2) (X13 : BufTy.Contents (Elt F) arg13.view.ty) (X16 : BufTy.Contents (Elt F) arg16.view.ty) (init : Carry F)
    (A : Vec F S2048x1536 .bf16) (S : Vec F S2048x1 .f32) (R : Vec F S8x1x256 .f32) (lo hi t : ℕ) (hlo : lo ≤ hi) (hhi : hi ≤ 8)
    (hw1 : w1 = BitVec.ofNat 32 lo) (hw2 : w2 = BitVec.ofNat 32 hi) (hq0 : v5 = qBlk A t 0) (hq1 : v7 = qBlk A t 1) (hq2 : v9 = qBlk A t 2) (hq3 : v11 = qBlk A t 3) (hq4 : v13 = qBlk A t 4) (hq5 : v15 = qBlk A t 5) (hq6 : v17 = qBlk A t 6) (hq7 : v19 = qBlk A t 7) (hsc : v21 = scBlk S t)
    (hA : arg13.view.read (Elt F) X13 = A) (hR : arg16.view.read (Elt F) X16 = R) (hinit : init = initV) :
    st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v3 v5 v7 v9 v11 v13 v15 v17 v19 v21 v22 v23 v24 v25 v26 v27 v28 v29 v30 v31 v32 v33 w1 w2 hchk X13 X16 init (Scf.trips w1 (Scalar.addi w1 (Scalar.muli (Scalar.divsi (Scalar.subi w2 w1) 1#32) 1#32)) 1#32) = stV (qBlk A t) (scBlk S t) A R initV lo (hi - lo) := by
  subst hw1; subst hw2; subst hsc; subst hA; subst hR; subst hinit
  subst hq0; subst hq1; subst hq2; subst hq3; subst hq4; subst hq5; subst hq6; subst hq7
  rw [trips_small' ⟨lo, by omega⟩ ⟨hi, by omega⟩ hlo, st_eq (hlo := hlo) (hhi := hhi) (hn := le_refl _)]
  have e : (![qBlk (arg13.view.read (Elt F) X13) t 0, qBlk (arg13.view.read (Elt F) X13) t 1, qBlk (arg13.view.read (Elt F) X13) t 2, qBlk (arg13.view.read (Elt F) X13) t 3, qBlk (arg13.view.read (Elt F) X13) t 4, qBlk (arg13.view.read (Elt F) X13) t 5, qBlk (arg13.view.read (Elt F) X13) t 6, qBlk (arg13.view.read (Elt F) X13) t 7] : Fin 8 → Vec F S256x64 .bf16) = qBlk (arg13.view.read (Elt F) X13) t := by
    funext h
    match h with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
  rw [e]

set_option maxHeartbeats 2000000 in
/-- The block the body writes, from what its loads read and the loop leaves. -/
theorem blk_eq (𝒱 : Variants) (c : Dev nD) (bd : Option 𝒱.V) (i : grid0.Coords) (arg1 : Memref sig .tc .smem S8 .i32) (harg1 : arg1.IsWhole) (arg2 : Memref sig .tc .smem S8 .i32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1536x512 .f32) (harg7 : arg7.IsWhole) (arg8 : Memref sig .tc .vmem S1x1536 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S2048x512 .f32) (harg11 : arg11.IsWhole) (arg12 : Memref sig .tc .vmem S2048x512 .bf16) (harg12 : arg12.IsWhole) (arg13 : Memref sig .tc .vmem S2048x1536 .bf16) (harg13 : arg13.IsWhole) (arg14 : Memref sig .tc .vmem S2048x2048 .bf16) (harg14 : arg14.IsWhole) (arg15 : Memref sig .tc .vmem S2048x1 .f32) (harg15 : arg15.IsWhole) (arg16 : Memref sig .tc .vmem S8x1x256 .f32) (harg16 : arg16.IsWhole) (arg17 : Memref sig .tc .vmem S2048x512 .bf16) (harg17 : arg17.IsWhole) (arg18 : Memref sig .tc .vmem S1536x512 .bf16) (harg18 : arg18.IsWhole) (arg19 : Memref sig .tc .vmem S512x512 .bf16) (harg19 : arg19.IsWhole) (arg0 v3 : BitVec 32) (v5 : Vec F S256x64 .bf16) (v7 : Vec F S256x64 .bf16) (v9 : Vec F S256x64 .bf16) (v11 : Vec F S256x64 .bf16) (v13 : Vec F S256x64 .bf16) (v15 : Vec F S256x64 .bf16) (v17 : Vec F S256x64 .bf16) (v19 : Vec F S256x64 .bf16) (v21 : Vec F S256x1 .f32) (v22 : FVec F S256x1 .f32) (v23 : FVec F S256x1 .f32) (v24 : FVec F S256x1 .f32) (v25 : FVec F S256x1 .f32) (v26 : FVec F S256x1 .f32) (v27 : FVec F S256x1 .f32) (v28 : FVec F S256x1 .f32) (v29 : FVec F S256x1 .f32) (v30 : FVec F S256x64 .f32) (v31 : FVec F S256x64 .f32) (v32 : FVec F S256x64 .f32) (v33 : FVec F S256x64 .f32)
    (w1 w2 : Elt F .i32) (hchk : k0_chk1 w1 w2) (X13 : BufTy.Contents (Elt F) arg13.view.ty) (X16 : BufTy.Contents (Elt F) arg16.view.ty) (init : Carry F) (w : Vec F S512x512 .bf16)
    (A : Vec F S2048x1536 .bf16) (S : Vec F S2048x1 .f32) (R : Vec F S8x1x256 .f32) (wp : Vec F S512x512 .bf16) (lo hi t : ℕ) (hlo : lo ≤ hi) (hhi : hi ≤ 8)
    (hw1 : w1 = BitVec.ofNat 32 lo) (hw2 : w2 = BitVec.ofNat 32 hi) (hq0 : v5 = qBlk A t 0) (hq1 : v7 = qBlk A t 1) (hq2 : v9 = qBlk A t 2) (hq3 : v11 = qBlk A t 3) (hq4 : v13 = qBlk A t 4) (hq5 : v15 = qBlk A t 5) (hq6 : v17 = qBlk A t 6) (hq7 : v19 = qBlk A t 7) (hsc : v21 = scBlk S t)
    (hA : arg13.view.read (Elt F) X13 = A) (hR : arg16.view.read (Elt F) X16 = R) (hinit : init = initV) (hwp : w = wp) :
    outV (st_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 v3 v5 v7 v9 v11 v13 v15 v17 v19 v21 v22 v23 v24 v25 v26 v27 v28 v29 v30 v31 v32 v33 w1 w2 hchk X13 X16 init (Scf.trips w1 (Scalar.addi w1 (Scalar.muli (Scalar.divsi (Scalar.subi w2 w1) 1#32) 1#32)) 1#32)) w = blkV A S R wp lo hi t := by
  subst hw1; subst hw2; subst hsc; subst hA; subst hR; subst hinit; subst hwp
  subst hq0; subst hq1; subst hq2; subst hq3; subst hq4; subst hq5; subst hq6; subst hq7
  rw [trips_small' ⟨lo, by omega⟩ ⟨hi, by omega⟩ hlo, st_eq (hlo := hlo) (hhi := hhi) (hn := le_refl _)]
  have e : (![qBlk (arg13.view.read (Elt F) X13) t 0, qBlk (arg13.view.read (Elt F) X13) t 1, qBlk (arg13.view.read (Elt F) X13) t 2, qBlk (arg13.view.read (Elt F) X13) t 3, qBlk (arg13.view.read (Elt F) X13) t 4, qBlk (arg13.view.read (Elt F) X13) t 5, qBlk (arg13.view.read (Elt F) X13) t 6, qBlk (arg13.view.read (Elt F) X13) t 7] : Fin 8 → Vec F S256x64 .bf16) = qBlk (arg13.view.read (Elt F) X13) t := by
    funext h
    match h with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
  rw [e]
  rfl

/-- The row offset of a block. -/
theorem off_blk : ∀ n : Fin 8, (Scalar.indexCast (Scalar.muli (BitVec.ofNat 32 n.val) 256#32)).toNat = 256 * n.val := by decide +kernel
/-- The offset of a block's word. -/
theorem off_word : ∀ n : Fin 8, (Scalar.indexCast (BitVec.ofNat 32 n.val)).toNat = n.val := by decide +kernel

/-- What a load of one head's queries reads. -/
theorem q_read (m : Memref sig .tc .vmem S2048x1536 .bf16) (f : BufTy.Contents (Elt F) m.view.ty) (A : Vec F S2048x1536 .bf16) (hf : m.view.read (Elt F) f = A) (n : Fin 8) (h : Fin 8)
    (off : Fin 2 → ℕ) (hoff : off = ![256 * n.val, 64 * h.val]) (inb : ∀ a, off a + S256x64.size a ≤ S2048x1536.size a) :
    View.readAt (Elt F) m.view (Rect.unit (s := S2048x1536) off S256x64.size inb).toLoadRect f = qBlk A n.val h := by
  subst hoff; subst hf
  exact (View.readAt_unit _ _ _ rfl inb).trans (q_window _ _ n.isLt h _ rfl inb)

/-- What a load of a block's group numbers reads. -/
theorem sc_read (m : Memref sig .tc .vmem S2048x1 .f32) (f : BufTy.Contents (Elt F) m.view.ty) (S : Vec F S2048x1 .f32) (hf : m.view.read (Elt F) f = S) (n : Fin 8)
    (off : Fin 2 → ℕ) (hoff : off = ![256 * n.val, 0]) (inb : ∀ a, off a + S256x1.size a ≤ S2048x1.size a) :
    View.readAt (Elt F) m.view (Rect.unit (s := S2048x1) off S256x1.size inb).toLoadRect f = scBlk S n.val := by
  subst hoff; subst hf
  exact (View.readAt_unit _ _ _ rfl inb).trans (sc_window _ _ n.isLt inb)

/-- What a load of a block's word reads. -/
theorem word_read (m : Memref sig .tc .smem S8 .i32) (h : m.IsWhole) (x : Vec F S8 .i32) (i : grid0.Coords) (w : BitVec 32) (hw : x (ix1 (i 0)) = w) :
    View.readAt (Elt F) m.view (Rect.unit (s := S8) (k0_off10 i) S1.size (k0_off10_inb i)).toLoadRect (h.unread x) (Shape.Idx.first (show 0 < S1.numel by decide)) = w := by
  rw [h.readAt_unread, ← hw]
  refine congrArg x (funext fun a => Fin.ext ?_)
  match a with
  | ⟨0, _⟩ => exact (congrArg (fun z : ℕ => z + 1 * 0) (off_word (i 0)))

/-- A place outside a stored block keeps what it held. -/
theorem put_miss (z : Vec F S8x1x256 .f32) (w : Vec F S1x1x256 .f32) (n : ℕ) (y : S8x1x256.Idx) (h : (y 0).val ≠ n) :
    VecWindow.put (s := S8x1x256) z ![n, 0, 0] S1x1x256.size w y = z y := by
  refine dif_neg fun H => h ?_
  have h0 : n ≤ (y 0).val ∧ (y 0).val < n + 1 := H 0
  omega

/-- A place inside a stored block holds the block's element. -/
theorem put_hit (z : Vec F S8x1x256 .f32) (w : Vec F S1x1x256 .f32) (n : ℕ) (hn : n < 8) (y : S8x1x256.Idx) (h : (y 0).val = n) :
    VecWindow.put (s := S8x1x256) z ![n, 0, 0] S1x1x256.size w y = w (ix3 0 (y 1) (y 2)) := by
  have h1 : (y 1).val < 1 := (y 1).isLt
  have h2 : (y 2).val < 256 := (y 2).isLt
  have H : ∀ a, (![n, 0, 0] : Fin 3 → ℕ) a ≤ (y a).val ∧ (y a).val < (![n, 0, 0] : Fin 3 → ℕ) a + S1x1x256.size a := fun a =>
    match a with
    | ⟨0, _⟩ => (show n ≤ (y 0).val ∧ (y 0).val < n + 1 by omega)
    | ⟨1, _⟩ => (show 0 ≤ (y 1).val ∧ (y 1).val < 0 + 1 by omega)
    | ⟨2, _⟩ => (show 0 ≤ (y 2).val ∧ (y 2).val < 0 + 256 by omega)
  refine (dif_pos H).trans (congrArg w (funext fun a => Fin.ext ?_))
  match a with
  | ⟨0, _⟩ => show (y 0).val - n = 0; omega
  | ⟨1, _⟩ => show (y 1).val - 0 = (y 1).val; omega
  | ⟨2, _⟩ => show (y 2).val - 0 = (y 2).val; omega

/-- The eight stored blocks of group numbers are the whole of them. -/
theorem srow_puts (x3 : Vec F S2048x1 .f32) (z16 : Vec F S8x1x256 .f32) :
    (VecWindow.put (s := S8x1x256) (VecWindow.put (s := S8x1x256) (VecWindow.put (s := S8x1x256) (VecWindow.put (s := S8x1x256) (VecWindow.put (s := S8x1x256) (VecWindow.put (s := S8x1x256) (VecWindow.put (s := S8x1x256) (VecWindow.put (s := S8x1x256) z16 ![0, 0, 0] S1x1x256.size (k0_pay19 (k0_pay18 (endsC x3)))) ![1, 0, 0] S1x1x256.size (k0_pay20 (endsC x3))) ![2, 0, 0] S1x1x256.size (k0_pay21 (endsC x3))) ![3, 0, 0] S1x1x256.size (k0_pay23 (k0_pay22 (endsC x3)) (Scalar.ofBits .f32 0x3F800000#32) (Scalar.ofBits .f32 0x00000000#32))) ![4, 0, 0] S1x1x256.size (k0_pay24 (endsC x3))) ![5, 0, 0] S1x1x256.size (k0_pay25 (endsC x3))) ![6, 0, 0] S1x1x256.size (k0_pay26 (endsC x3) (iota .tc S1x256 32 [1] iota_S1x256_d1_w32))) ![7, 0, 0] S1x1x256.size (k0_pay27 (endsC x3))) = srowV x3 := by
  funext y
  have h1 : (y 1).val < 1 := (y 1).isLt
  obtain ⟨n, hn⟩ : ∃ n, n = y 0 := ⟨_, rfl⟩
  unfold srowV
  rw [← hn]
  match n with
  | ⟨0, _⟩ =>
    rw [put_miss _ _ 7 y (by rw [← hn]; exact (by decide : ¬ (0 : ℕ) = 7))]
    rw [put_miss _ _ 6 y (by rw [← hn]; exact (by decide : ¬ (0 : ℕ) = 6))]
    rw [put_miss _ _ 5 y (by rw [← hn]; exact (by decide : ¬ (0 : ℕ) = 5))]
    rw [put_miss _ _ 4 y (by rw [← hn]; exact (by decide : ¬ (0 : ℕ) = 4))]
    rw [put_miss _ _ 3 y (by rw [← hn]; exact (by decide : ¬ (0 : ℕ) = 3))]
    rw [put_miss _ _ 2 y (by rw [← hn]; exact (by decide : ¬ (0 : ℕ) = 2))]
    rw [put_miss _ _ 1 y (by rw [← hn]; exact (by decide : ¬ (0 : ℕ) = 1))]
    exact put_hit _ _ 0 (by decide) y (by rw [← hn])
  | ⟨1, _⟩ =>
    rw [put_miss _ _ 7 y (by rw [← hn]; exact (by decide : ¬ (1 : ℕ) = 7))]
    rw [put_miss _ _ 6 y (by rw [← hn]; exact (by decide : ¬ (1 : ℕ) = 6))]
    rw [put_miss _ _ 5 y (by rw [← hn]; exact (by decide : ¬ (1 : ℕ) = 5))]
    rw [put_miss _ _ 4 y (by rw [← hn]; exact (by decide : ¬ (1 : ℕ) = 4))]
    rw [put_miss _ _ 3 y (by rw [← hn]; exact (by decide : ¬ (1 : ℕ) = 3))]
    rw [put_miss _ _ 2 y (by rw [← hn]; exact (by decide : ¬ (1 : ℕ) = 2))]
    exact put_hit _ _ 1 (by decide) y (by rw [← hn])
  | ⟨2, _⟩ =>
    rw [put_miss _ _ 7 y (by rw [← hn]; exact (by decide : ¬ (2 : ℕ) = 7))]
    rw [put_miss _ _ 6 y (by rw [← hn]; exact (by decide : ¬ (2 : ℕ) = 6))]
    rw [put_miss _ _ 5 y (by rw [← hn]; exact (by decide : ¬ (2 : ℕ) = 5))]
    rw [put_miss _ _ 4 y (by rw [← hn]; exact (by decide : ¬ (2 : ℕ) = 4))]
    rw [put_miss _ _ 3 y (by rw [← hn]; exact (by decide : ¬ (2 : ℕ) = 3))]
    exact put_hit _ _ 2 (by decide) y (by rw [← hn])
  | ⟨3, _⟩ =>
    rw [put_miss _ _ 7 y (by rw [← hn]; exact (by decide : ¬ (3 : ℕ) = 7))]
    rw [put_miss _ _ 6 y (by rw [← hn]; exact (by decide : ¬ (3 : ℕ) = 6))]
    rw [put_miss _ _ 5 y (by rw [← hn]; exact (by decide : ¬ (3 : ℕ) = 5))]
    rw [put_miss _ _ 4 y (by rw [← hn]; exact (by decide : ¬ (3 : ℕ) = 4))]
    exact put_hit _ _ 3 (by decide) y (by rw [← hn])
  | ⟨4, _⟩ =>
    rw [put_miss _ _ 7 y (by rw [← hn]; exact (by decide : ¬ (4 : ℕ) = 7))]
    rw [put_miss _ _ 6 y (by rw [← hn]; exact (by decide : ¬ (4 : ℕ) = 6))]
    rw [put_miss _ _ 5 y (by rw [← hn]; exact (by decide : ¬ (4 : ℕ) = 5))]
    exact put_hit _ _ 4 (by decide) y (by rw [← hn])
  | ⟨5, _⟩ =>
    rw [put_miss _ _ 7 y (by rw [← hn]; exact (by decide : ¬ (5 : ℕ) = 7))]
    rw [put_miss _ _ 6 y (by rw [← hn]; exact (by decide : ¬ (5 : ℕ) = 6))]
    exact put_hit _ _ 5 (by decide) y (by rw [← hn])
  | ⟨6, _⟩ =>
    rw [put_miss _ _ 7 y (by rw [← hn]; exact (by decide : ¬ (6 : ℕ) = 7))]
    exact put_hit _ _ 6 (by decide) y (by rw [← hn])
  | ⟨7, _⟩ =>
    exact put_hit _ _ 7 (by decide) y (by rw [← hn])

end Cert.KernelIdeal.Hand
-- ==== Proof.RunA.lean ====
module

public import proofs.«01_k».proof.Proof.Conds
public import proofs.«01_k».proof.Proof.HostWords
public import proofs.«01_k».proof.Proof.Blk
public import proofs.«01_k».proof.Proof.Gen.KernelIdeal.Loops
public import Idealize.ShloMosaic.Lib.LoopRemainder

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F] [Named F]

local notation "𝕄" => MT nD τ sig Unit (Elt F) ℕ (UR sig nD τ) ℕ

attribute [local irreducible] st_k0_t1 stV Scf.trips

set_option maxHeartbeats 2000000 in
/-- The body at the first point: the prologue fills the scratch, then one query block is done. -/
theorem runA (c : Dev nD) (i : grid0.Coords) (arg1 : Memref sig .tc .smem S8 .i32) (harg1 : arg1.IsWhole) (arg2 : Memref sig .tc .smem S8 .i32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1536x512 .f32) (harg7 : arg7.IsWhole) (arg8 : Memref sig .tc .vmem S1x1536 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S2048x512 .f32) (harg11 : arg11.IsWhole) (arg12 : Memref sig .tc .vmem S2048x512 .bf16) (harg12 : arg12.IsWhole) (arg13 : Memref sig .tc .vmem S2048x1536 .bf16) (harg13 : arg13.IsWhole) (arg14 : Memref sig .tc .vmem S2048x2048 .bf16) (harg14 : arg14.IsWhole) (arg15 : Memref sig .tc .vmem S2048x1 .f32) (harg15 : arg15.IsWhole) (arg16 : Memref sig .tc .vmem S8x1x256 .f32) (harg16 : arg16.IsWhole) (arg17 : Memref sig .tc .vmem S2048x512 .bf16) (harg17 : arg17.IsWhole) (arg18 : Memref sig .tc .vmem S1536x512 .bf16) (harg18 : arg18.IsWhole) (arg19 : Memref sig .tc .vmem S512x512 .bf16) (harg19 : arg19.IsWhole)
    (hc0 : cond0_0 i) (hc1 : ¬cond0_1 i)
    (x0 : Vec F S8 .i32) (x1 : Vec F S8 .i32) (x2 : Vec F S2048x512 .f32) (x3 : Vec F S2048x1 .f32) (x4 : Vec F S1x512 .f32) (x5 : Vec F S1x512 .f32) (x6 : Vec F S1536x512 .f32) (x7 : Vec F S1x1536 .f32) (x8 : Vec F S512x512 .f32) (x9 : Vec F S1x512 .f32)
    (z11 : Vec F S2048x512 .f32) (z12 : Vec F S2048x512 .bf16) (z13 : Vec F S2048x1536 .bf16) (z14 : Vec F S2048x2048 .bf16) (z15 : Vec F S2048x1 .f32) (z16 : Vec F S8x1x256 .f32) (z17 : Vec F S2048x512 .bf16) (z18 : Vec F S1536x512 .bf16) (z19 : Vec F S512x512 .bf16)
    (lo hi : ℕ) (hlo : lo ≤ hi) (hhi : hi ≤ 8) (hw1 : x0 (ix1 (i 0)) = BitVec.ofNat 32 lo) (hw2 : x1 (ix1 (i 0)) = BitVec.ofNat 32 hi)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare z11 ∗ owns (c : Thread nD τ) arg12 fullShare z12 ∗ owns (c : Thread nD τ) arg13 fullShare z13 ∗ owns (c : Thread nD τ) arg14 fullShare z14 ∗ owns (c : Thread nD τ) arg15 fullShare z15 ∗ owns (c : Thread nD τ) arg16 fullShare z16 ∗ owns (c : Thread nD τ) arg17 fullShare z17 ∗ owns (c : Thread nD τ) arg18 fullShare z18 ∗ owns (c : Thread nD τ) arg19 fullShare z19
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare z11 ∗ owns (c : Thread nD τ) arg12 fullShare (xsV x2 x3 x4 x5) ∗ owns (c : Thread nD τ) arg13 fullShare (qkvV x2 x3 x4 x5 x6 x7) ∗ owns (c : Thread nD τ) arg14 fullShare (ptV x3) ∗ owns (c : Thread nD τ) arg15 fullShare (scolV x3) ∗ owns (c : Thread nD τ) arg16 fullShare (srowV x3) ∗ owns (c : Thread nD τ) arg17 fullShare (VecWindow.put (s := S2048x512) z17 ![256 * (i 0).val, 0] S256x512.size (blkV (qkvV x2 x3 x4 x5 x6 x7) (scolV x3) (srowV x3) (wpV x8) lo hi (i 0).val)) ∗ owns (c : Thread nD τ) arg18 fullShare (k0_pay28 x6) ∗ owns (c : Thread nD τ) arg19 fullShare (wpV x8)) -∗ K ⟨⟩))
      ⊢ wp frame (wpE (defs₀ (F := F)) Variants.none c none) E (cc0__attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have e1 := word_read arg1 harg1 x0 i _ hw1
  have e2 := word_read arg2 harg2 x1 i _ hw2
  have hchk : k0_chk1 (View.readAt (Elt F) arg1.view (Rect.unit (s := S8) (k0_off10 i) S1.size (k0_off10_inb i)).toLoadRect (harg1.unread x0) (Shape.Idx.first (show 0 < S1.numel by decide)))
      (View.readAt (Elt F) arg2.view (Rect.unit (s := S8) (k0_off10 i) S1.size (k0_off10_inb i)).toLoadRect (harg2.unread x1) (Shape.Idx.first (show 0 < S1.numel by decide))) := by
    rw [e1, e2]; exact chk_small ⟨lo, by omega⟩ ⟨hi, by omega⟩ hlo
  simp only [cc0__attn_kernel_eq_skeleton]; unfold cc0__attn_kernel_skel
  rw [k0_part11_eq_skeleton]; unfold k0_part11_skel
  simp only [dif_pos hc0, bind_assoc, pure_bind]
  iintro ⟨H1, H2, H3, H4, H5, H6, H7, H8, H9, H10, H11, H12, H13, H14, H15, H16, H17, H18, H19, Hk⟩
  rw [wp_bind]
  iapply part1_run c i (E := E)
  isplitl [H3]; · iexact H3
  isplitl [H4]; · iexact H4
  isplitl [H5]; · iexact H5
  isplitl [H6]; · iexact H6
  iintro ⟨H3, H4, H5, H6⟩
  try dsimp only
  rw [wp_bind]
  iapply part2_run c i (E := E)
  isplitl [H14]; · iexact H14
  iintro H14
  try dsimp only
  rw [wp_bind]
  iapply part3_run c i (E := E)
  isplitl [H12]; · iexact H12
  isplitl [H14]; · iexact H14
  isplitl [H15]; · iexact H15
  iintro ⟨H12, H14, H15⟩
  try dsimp only
  rw [wp_bind]
  iapply part4_run c i (E := E)
  isplitl [H16]; · iexact H16
  iintro H16
  try dsimp only
  rw [wp_bind]
  iapply part5_run c i (E := E)
  isplitl [H16]; · iexact H16
  iintro H16
  try dsimp only
  rw [wp_bind]
  iapply part6_run c i (E := E)
  isplitl [H7]; · iexact H7
  isplitl [H9]; · iexact H9
  isplitl [H16]; · iexact H16
  isplitl [H18]; · iexact H18
  iintro ⟨H7, H9, H16, H18⟩
  try dsimp only
  unfold owns
  icases H1 with ⟨%g1, %hg1, H1⟩
  icases H2 with ⟨%g2, %hg2, H2⟩
  icases H3 with ⟨%g3, %hg3, H3⟩
  icases H4 with ⟨%g4, %hg4, H4⟩
  icases H5 with ⟨%g5, %hg5, H5⟩
  icases H6 with ⟨%g6, %hg6, H6⟩
  icases H7 with ⟨%g7, %hg7, H7⟩
  icases H8 with ⟨%g8, %hg8, H8⟩
  icases H9 with ⟨%g9, %hg9, H9⟩
  icases H10 with ⟨%g10, %hg10, H10⟩
  icases H11 with ⟨%g11, %hg11, H11⟩
  icases H12 with ⟨%g12, %hg12, H12⟩
  icases H13 with ⟨%g13, %hg13, H13⟩
  icases H14 with ⟨%g14, %hg14, H14⟩
  icases H15 with ⟨%g15, %hg15, H15⟩
  icases H16 with ⟨%g16, %hg16, H16⟩
  icases H17 with ⟨%g17, %hg17, H17⟩
  icases H18 with ⟨%g18, %hg18, H18⟩
  icases H19 with ⟨%g19, %hg19, H19⟩
  obtain rfl := harg1.eq_unread hg1; obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9; obtain rfl := harg10.eq_unread hg10; obtain rfl := harg11.eq_unread hg11; obtain rfl := harg13.eq_unread hg13; obtain rfl := harg17.eq_unread hg17; obtain rfl := harg19.eq_unread hg19
  sl_exec (disch := first | sl_exact hc0 | sl_exact hc1 | sl_exact hchk)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  isplitl [H12]
  · iexists _; isplitr; swap; · iexact H12
    ipureintro; exact hg12
  isplitl [H13]
  · iexists _; isplitr; swap; · iexact H13
    ipureintro; sl_unfold_words; exact ((View.read_writes_full _ _ _ _ _).trans (by simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread, hg12, hg18]; rfl))
  isplitl [H14]
  · iexists _; isplitr; swap; · iexact H14
    ipureintro; exact hg14
  isplitl [H15]
  · iexists _; isplitr; swap; · iexact H15
    ipureintro; exact hg15
  isplitl [H16]
  · iexists _; isplitr; swap; · iexact H16
    ipureintro; exact hg16.trans (srow_puts _ _)
  isplitl [H17]
  · iexists _; isplitr; swap; · iexact H17
    ipureintro; sl_unfold_words
    refine (View.read_writes_cons_put _ _ _ _ _ (congrArg (fun x : ℕ => (![x, 0] : Fin 2 → ℕ)) (off_blk (i 0)))).trans ?_
    refine congrArg₂ (fun z w => VecWindow.put (s := S2048x512) z _ _ w) (harg17.read_unread _) ?_
    exact blk_eq (hw1 := e1) (hw2 := e2) (hlo := hlo) (hhi := hhi) (hA := ((View.read_writes_full _ _ _ _ _).trans (by simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread, hg12, hg18]; rfl))) (hR := hg16.trans (srow_puts _ _)) (hinit := rfl) (hwp := rc_S512x512 _ _ _ _ _)
      (hq0 := q_read arg13 _ _ ((View.read_writes_full _ _ _ _ _).trans (by simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread, hg12, hg18]; rfl)) (i 0) 0 _ (congrArg (fun x : ℕ => (![x, 0] : Fin 2 → ℕ)) (off_blk (i 0))) _)
      (hq1 := q_read arg13 _ _ ((View.read_writes_full _ _ _ _ _).trans (by simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread, hg12, hg18]; rfl)) (i 0) 1 _ (congrArg (fun x : ℕ => (![x, 64] : Fin 2 → ℕ)) (off_blk (i 0))) _)
      (hq2 := q_read arg13 _ _ ((View.read_writes_full _ _ _ _ _).trans (by simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread, hg12, hg18]; rfl)) (i 0) 2 _ (congrArg (fun x : ℕ => (![x, 128] : Fin 2 → ℕ)) (off_blk (i 0))) _)
      (hq3 := q_read arg13 _ _ ((View.read_writes_full _ _ _ _ _).trans (by simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread, hg12, hg18]; rfl)) (i 0) 3 _ (congrArg (fun x : ℕ => (![x, 192] : Fin 2 → ℕ)) (off_blk (i 0))) _)
      (hq4 := q_read arg13 _ _ ((View.read_writes_full _ _ _ _ _).trans (by simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread, hg12, hg18]; rfl)) (i 0) 4 _ (congrArg (fun x : ℕ => (![x, 256] : Fin 2 → ℕ)) (off_blk (i 0))) _)
      (hq5 := q_read arg13 _ _ ((View.read_writes_full _ _ _ _ _).trans (by simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread, hg12, hg18]; rfl)) (i 0) 5 _ (congrArg (fun x : ℕ => (![x, 320] : Fin 2 → ℕ)) (off_blk (i 0))) _)
      (hq6 := q_read arg13 _ _ ((View.read_writes_full _ _ _ _ _).trans (by simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread, hg12, hg18]; rfl)) (i 0) 6 _ (congrArg (fun x : ℕ => (![x, 384] : Fin 2 → ℕ)) (off_blk (i 0))) _)
      (hq7 := q_read arg13 _ _ ((View.read_writes_full _ _ _ _ _).trans (by simp only [rd_S2048x512, rd_S1x512, rd_S2048x1, rd_S512x512, rd_S1536x512, rd_S1x1536, rd_S2048x1536, rd_S2048x2048, rc_S2048x2048, rc_S2048x512, rc_S1536x512, rc_S2048x1536, rc_S2048x1, rc_S512x512, Memref.IsWhole.read_unread, hg12, hg18]; rfl)) (i 0) 7 _ (congrArg (fun x : ℕ => (![x, 448] : Fin 2 → ℕ)) (off_blk (i 0))) _)
      (hsc := sc_read arg15 _ _ (hg15) (i 0) _ (congrArg (fun x : ℕ => (![x, 0] : Fin 2 → ℕ)) (off_blk (i 0))) _) ..
  isplitl [H18]
  · iexists _; isplitr; swap; · iexact H18
    ipureintro; exact hg18
  iexists _; isplitr; swap; · iexact H19
  ipureintro; sl_unfold_words; exact ((View.read_writes_full _ _ _ _ _).trans rfl)

end Cert.KernelIdeal.Hand
-- ==== Proof.RunB.lean ====
module

public import proofs.«01_k».proof.Proof.Conds
public import proofs.«01_k».proof.Proof.Gen.KernelIdeal.Skeleton
public import proofs.«01_k».proof.Proof.Gen.KernelIdeal.Loops
public import Idealize.ShloMosaic.Lib.LoopRemainder

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 2000000 in
/-- The body at a middle point: one query block is done from the scratch. -/
noncomputable def runB (c : Dev nD) (i : grid0.Coords) (arg1 : Memref sig .tc .smem S8 .i32) (harg1 : arg1.IsWhole) (arg2 : Memref sig .tc .smem S8 .i32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1536x512 .f32) (harg7 : arg7.IsWhole) (arg8 : Memref sig .tc .vmem S1x1536 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S2048x512 .f32) (harg11 : arg11.IsWhole) (arg12 : Memref sig .tc .vmem S2048x512 .bf16) (harg12 : arg12.IsWhole) (arg13 : Memref sig .tc .vmem S2048x1536 .bf16) (harg13 : arg13.IsWhole) (arg14 : Memref sig .tc .vmem S2048x2048 .bf16) (harg14 : arg14.IsWhole) (arg15 : Memref sig .tc .vmem S2048x1 .f32) (harg15 : arg15.IsWhole) (arg16 : Memref sig .tc .vmem S8x1x256 .f32) (harg16 : arg16.IsWhole) (arg17 : Memref sig .tc .vmem S2048x512 .bf16) (harg17 : arg17.IsWhole) (arg18 : Memref sig .tc .vmem S1536x512 .bf16) (harg18 : arg18.IsWhole) (arg19 : Memref sig .tc .vmem S512x512 .bf16) (harg19 : arg19.IsWhole)
    (hc0 : ¬cond0_0 i) (hc1 : ¬cond0_1 i)
    (x0 : Vec F S8 .i32) (x1 : Vec F S8 .i32) (x2 : Vec F S2048x512 .f32) (x3 : Vec F S2048x1 .f32) (x4 : Vec F S1x512 .f32) (x5 : Vec F S1x512 .f32) (x6 : Vec F S1536x512 .f32) (x7 : Vec F S1x1536 .f32) (x8 : Vec F S512x512 .f32) (x9 : Vec F S1x512 .f32)
    (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F))
    (hchk : k0_chk1 (View.readAt (Elt F) arg1.view (Rect.unit (s := S8) (k0_off10 i) S1.size (k0_off10_inb i)).toLoadRect (harg1.unread x0) (Shape.Idx.first (show 0 < S1.numel by decide)))
      (View.readAt (Elt F) arg2.view (Rect.unit (s := S8) (k0_off10 i) S1.size (k0_off10_inb i)).toLoadRect (harg2.unread x1) (Shape.Idx.first (show 0 < S1.numel by decide)))) :
    { L : List (View.Piece (Elt F) S2048x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} arg17.view.writes (Elt F) f17 L) ∗ (arg18.view.loc (c : Thread nD τ) ↦[arg18.view.set]{fullShare} f18) ∗ (arg19.view.loc (c : Thread nD τ) ↦[arg19.view.set]{fullShare} f19)) -∗ K ⟨⟩))
          ⊢ wp frame (wpE (defs₀ (F := F)) Variants.none c none) E (cc0__attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0__attn_kernel_eq_skeleton]; unfold cc0__attn_kernel_skel
    unfold owns
    iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, H11, H12, H13, H14, H15, H16, H17, H18, H19, Hk⟩
    obtain rfl := harg1.eq_unread hg1; obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9; obtain rfl := harg10.eq_unread hg10
    sl_exec (disch := first | sl_exact hc0 | sl_exact hc1 | sl_exact hchk)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

end Cert.KernelIdeal.Hand
-- ==== Proof.RunC.lean ====
module

public import proofs.«01_k».proof.Proof.Conds
public import proofs.«01_k».proof.Proof.Gen.KernelIdeal.Skeleton
public import proofs.«01_k».proof.Proof.Gen.KernelIdeal.Loops
public import Idealize.ShloMosaic.Lib.LoopRemainder

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 2000000 in
/-- The body at the last point: one query block is done, then the output is written. -/
noncomputable def runC (c : Dev nD) (i : grid0.Coords) (arg1 : Memref sig .tc .smem S8 .i32) (harg1 : arg1.IsWhole) (arg2 : Memref sig .tc .smem S8 .i32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1536x512 .f32) (harg7 : arg7.IsWhole) (arg8 : Memref sig .tc .vmem S1x1536 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S2048x512 .f32) (harg11 : arg11.IsWhole) (arg12 : Memref sig .tc .vmem S2048x512 .bf16) (harg12 : arg12.IsWhole) (arg13 : Memref sig .tc .vmem S2048x1536 .bf16) (harg13 : arg13.IsWhole) (arg14 : Memref sig .tc .vmem S2048x2048 .bf16) (harg14 : arg14.IsWhole) (arg15 : Memref sig .tc .vmem S2048x1 .f32) (harg15 : arg15.IsWhole) (arg16 : Memref sig .tc .vmem S8x1x256 .f32) (harg16 : arg16.IsWhole) (arg17 : Memref sig .tc .vmem S2048x512 .bf16) (harg17 : arg17.IsWhole) (arg18 : Memref sig .tc .vmem S1536x512 .bf16) (harg18 : arg18.IsWhole) (arg19 : Memref sig .tc .vmem S512x512 .bf16) (harg19 : arg19.IsWhole)
    (hc0 : ¬cond0_0 i) (hc1 : cond0_1 i)
    (x0 : Vec F S8 .i32) (x1 : Vec F S8 .i32) (x2 : Vec F S2048x512 .f32) (x3 : Vec F S2048x1 .f32) (x4 : Vec F S1x512 .f32) (x5 : Vec F S1x512 .f32) (x6 : Vec F S1536x512 .f32) (x7 : Vec F S1x1536 .f32) (x8 : Vec F S512x512 .f32) (x9 : Vec F S1x512 .f32)
    (f11 : arg11.view.ty.Contents (Elt F)) (f12 : arg12.view.ty.Contents (Elt F)) (f13 : arg13.view.ty.Contents (Elt F)) (f14 : arg14.view.ty.Contents (Elt F)) (f15 : arg15.view.ty.Contents (Elt F)) (f16 : arg16.view.ty.Contents (Elt F)) (f17 : arg17.view.ty.Contents (Elt F)) (f18 : arg18.view.ty.Contents (Elt F)) (f19 : arg19.view.ty.Contents (Elt F))
    (hchk : k0_chk1 (View.readAt (Elt F) arg1.view (Rect.unit (s := S8) (k0_off10 i) S1.size (k0_off10_inb i)).toLoadRect (harg1.unread x0) (Shape.Idx.first (show 0 < S1.numel by decide)))
      (View.readAt (Elt F) arg2.view (Rect.unit (s := S8) (k0_off10 i) S1.size (k0_off10_inb i)).toLoadRect (harg2.unread x1) (Shape.Idx.first (show 0 < S1.numel by decide)))) :
    { L : List (View.Piece (Elt F) S2048x512 .f32) × List (View.Piece (Elt F) S2048x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (arg11.view.loc (c : Thread nD τ) ↦[arg11.view.set]{fullShare} arg11.view.writes (Elt F) f11 L.1) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} arg17.view.writes (Elt F) f17 L.2) ∗ (arg18.view.loc (c : Thread nD τ) ↦[arg18.view.set]{fullShare} f18) ∗ (arg19.view.loc (c : Thread nD τ) ↦[arg19.view.set]{fullShare} f19)) -∗ K ⟨⟩))
          ⊢ wp frame (wpE (defs₀ (F := F)) Variants.none c none) E (cc0__attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨⟨?_, ?_⟩, fun E K => ?run⟩
  case run =>
    simp only [cc0__attn_kernel_eq_skeleton]; unfold cc0__attn_kernel_skel
    unfold owns
    iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩, ⟨%g10, %hg10, H10⟩, H11, H12, H13, H14, H15, H16, H17, H18, H19, Hk⟩
    obtain rfl := harg1.eq_unread hg1; obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8; obtain rfl := harg9.eq_unread hg9; obtain rfl := harg10.eq_unread hg10
    sl_exec (disch := first | sl_exact hc0 | sl_exact hc1 | sl_exact hchk)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

end Cert.KernelIdeal.Hand
-- ==== Proof.ValBC.lean ====
module

public import proofs.«01_k».proof.Proof.HostWords
public import proofs.«01_k».proof.Proof.Blk
public import proofs.«01_k».proof.Proof.RunB
public import proofs.«01_k».proof.Proof.RunC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F] [Named F]

local notation "𝕄" => MT nD τ sig Unit (Elt F) ℕ (UR sig nD τ) ℕ

attribute [local irreducible] st_k0_t1 stV Scf.trips

/-- Equal arguments, four at a time. -/
theorem congrArgs4 {α β γ δ ε : Type} (f : α → β → γ → δ → ε) {a a' : α} {b b' : β} {c c' : γ} {d d' : δ} (ha : a = a') (hb : b = b') (hc : c = c') (hd : d = d') :
    f a b c d = f a' b' c' d' := by subst ha; subst hb; subst hc; subst hd; rfl

set_option maxHeartbeats 2000000 in
/-- What a middle point leaves in the joined rows. -/
theorem valB (c : Dev nD) (i : grid0.Coords) (arg1 : Memref sig .tc .smem S8 .i32) (harg1 : arg1.IsWhole) (arg2 : Memref sig .tc .smem S8 .i32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1536x512 .f32) (harg7 : arg7.IsWhole) (arg8 : Memref sig .tc .vmem S1x1536 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S2048x512 .f32) (harg11 : arg11.IsWhole) (arg12 : Memref sig .tc .vmem S2048x512 .bf16) (harg12 : arg12.IsWhole) (arg13 : Memref sig .tc .vmem S2048x1536 .bf16) (harg13 : arg13.IsWhole) (arg14 : Memref sig .tc .vmem S2048x2048 .bf16) (harg14 : arg14.IsWhole) (arg15 : Memref sig .tc .vmem S2048x1 .f32) (harg15 : arg15.IsWhole) (arg16 : Memref sig .tc .vmem S8x1x256 .f32) (harg16 : arg16.IsWhole) (arg17 : Memref sig .tc .vmem S2048x512 .bf16) (harg17 : arg17.IsWhole) (arg18 : Memref sig .tc .vmem S1536x512 .bf16) (harg18 : arg18.IsWhole) (arg19 : Memref sig .tc .vmem S512x512 .bf16) (harg19 : arg19.IsWhole)
    (hc0 : ¬cond0_0 i) (hc1 : ¬cond0_1 i)
    (x0 : Vec F S8 .i32) (x1 : Vec F S8 .i32) (x2 : Vec F S2048x512 .f32) (x3 : Vec F S2048x1 .f32) (x4 : Vec F S1x512 .f32) (x5 : Vec F S1x512 .f32) (x6 : Vec F S1536x512 .f32) (x7 : Vec F S1x1536 .f32) (x8 : Vec F S512x512 .f32) (x9 : Vec F S1x512 .f32)
    (z11 : Vec F S2048x512 .f32) (z12 : Vec F S2048x512 .bf16) (z13 : Vec F S2048x1536 .bf16) (z14 : Vec F S2048x2048 .bf16) (z15 : Vec F S2048x1 .f32) (z16 : Vec F S8x1x256 .f32) (z17 : Vec F S2048x512 .bf16) (z18 : Vec F S1536x512 .bf16) (z19 : Vec F S512x512 .bf16)
    (lo hi : ℕ) (hlo : lo ≤ hi) (hhi : hi ≤ 8)
    (hchk : k0_chk1 (View.readAt (Elt F) arg1.view (Rect.unit (s := S8) (k0_off10 i) S1.size (k0_off10_inb i)).toLoadRect (harg1.unread x0) (Shape.Idx.first (show 0 < S1.numel by decide))) (View.readAt (Elt F) arg2.view (Rect.unit (s := S8) (k0_off10 i) S1.size (k0_off10_inb i)).toLoadRect (harg2.unread x1) (Shape.Idx.first (show 0 < S1.numel by decide)))) (e1 : (View.readAt (Elt F) arg1.view (Rect.unit (s := S8) (k0_off10 i) S1.size (k0_off10_inb i)).toLoadRect (harg1.unread x0) (Shape.Idx.first (show 0 < S1.numel by decide))) = BitVec.ofNat 32 lo) (e2 : (View.readAt (Elt F) arg2.view (Rect.unit (s := S8) (k0_off10 i) S1.size (k0_off10_inb i)).toLoadRect (harg2.unread x1) (Shape.Idx.first (show 0 < S1.numel by decide))) = BitVec.ofNat 32 hi) :
    arg17.view.read (Elt F) (arg17.view.writes (Elt F) (harg17.unread z17) (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 (harg11.unread z11) (harg12.unread z12) (harg13.unread z13) (harg14.unread z14) (harg15.unread z15) (harg16.unread z16) (harg17.unread z17) (harg18.unread z18) (harg19.unread z19) hchk).1) = (VecWindow.put (s := S2048x512) z17 ![256 * (i 0).val, 0] S256x512.size (blkV z13 z15 z16 z19 lo hi (i 0).val)) := by
  unfold runB
  dsimp only
  refine (View.read_writes_cons_put _ _ _ _ _ (congrArg (fun x : ℕ => (![x, 0] : Fin 2 → ℕ)) (off_blk (i 0)))).trans ?_
  refine congrArg₂ (fun z w => VecWindow.put (s := S2048x512) z _ _ w) (harg17.read_unread _) ?_
  have key := st_all (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 (BitVec.ofNat 32 (i 0).val) (Scalar.muli (BitVec.ofNat 32 (i 0).val) 256#32)
      (View.readAt (Elt F) arg13.view (Rect.unit (s := S2048x1536) (k0_off1 i) S256x64.size (k0_off1_inb i)).toLoadRect (harg13.unread z13)) (View.readAt (Elt F) arg13.view (Rect.unit (s := S2048x1536) (k0_off2 i) S256x64.size (k0_off2_inb i)).toLoadRect (harg13.unread z13)) (View.readAt (Elt F) arg13.view (Rect.unit (s := S2048x1536) (k0_off3 i) S256x64.size (k0_off3_inb i)).toLoadRect (harg13.unread z13)) (View.readAt (Elt F) arg13.view (Rect.unit (s := S2048x1536) (k0_off4 i) S256x64.size (k0_off4_inb i)).toLoadRect (harg13.unread z13)) (View.readAt (Elt F) arg13.view (Rect.unit (s := S2048x1536) (k0_off5 i) S256x64.size (k0_off5_inb i)).toLoadRect (harg13.unread z13)) (View.readAt (Elt F) arg13.view (Rect.unit (s := S2048x1536) (k0_off6 i) S256x64.size (k0_off6_inb i)).toLoadRect (harg13.unread z13)) (View.readAt (Elt F) arg13.view (Rect.unit (s := S2048x1536) (k0_off7 i) S256x64.size (k0_off7_inb i)).toLoadRect (harg13.unread z13)) (View.readAt (Elt F) arg13.view (Rect.unit (s := S2048x1536) (k0_off8 i) S256x64.size (k0_off8_inb i)).toLoadRect (harg13.unread z13))
      (View.readAt (Elt F) arg15.view (Rect.unit (s := S2048x1) (k0_off9 i) S256x1.size (k0_off9_inb i)).toLoadRect (harg15.unread z15))
      (broadcast S256x1 (FloatOps.ofBits FTy.f32 0#32)) (broadcast S256x1 (FloatOps.ofBits FTy.f32 0#32)) (broadcast S256x1 (FloatOps.ofBits FTy.f32 0#32)) (broadcast S256x1 (FloatOps.ofBits FTy.f32 0#32)) (broadcast S256x1 (FloatOps.ofBits FTy.f32 0#32)) (broadcast S256x1 (FloatOps.ofBits FTy.f32 0#32)) (broadcast S256x1 (FloatOps.ofBits FTy.f32 0#32)) (broadcast S256x1 (FloatOps.ofBits FTy.f32 0#32)) (broadcast S256x64 (FloatOps.ofBits FTy.f32 0#32)) (broadcast S256x64 (FloatOps.ofBits FTy.f32 0#32)) (broadcast S256x64 (FloatOps.ofBits FTy.f32 0#32)) (broadcast S256x64 (FloatOps.ofBits FTy.f32 0#32))
      (View.readAt (Elt F) arg1.view (Rect.unit (s := S8) (k0_off10 i) S1.size (k0_off10_inb i)).toLoadRect (harg1.unread x0) (Shape.Idx.first (show 0 < S1.numel by decide))) (View.readAt (Elt F) arg2.view (Rect.unit (s := S8) (k0_off10 i) S1.size (k0_off10_inb i)).toLoadRect (harg2.unread x1) (Shape.Idx.first (show 0 < S1.numel by decide))) hchk (harg13.unread z13) (harg16.unread z16) initV
      _ _ _ lo hi (i 0).val hlo hhi e1 e2
      (q_read arg13 _ _ (harg13.read_unread _) (i 0) 0 _ (congrArg (fun x : ℕ => (![x, 0] : Fin 2 → ℕ)) (off_blk (i 0))) _) (q_read arg13 _ _ (harg13.read_unread _) (i 0) 1 _ (congrArg (fun x : ℕ => (![x, 64] : Fin 2 → ℕ)) (off_blk (i 0))) _) (q_read arg13 _ _ (harg13.read_unread _) (i 0) 2 _ (congrArg (fun x : ℕ => (![x, 128] : Fin 2 → ℕ)) (off_blk (i 0))) _) (q_read arg13 _ _ (harg13.read_unread _) (i 0) 3 _ (congrArg (fun x : ℕ => (![x, 192] : Fin 2 → ℕ)) (off_blk (i 0))) _) (q_read arg13 _ _ (harg13.read_unread _) (i 0) 4 _ (congrArg (fun x : ℕ => (![x, 256] : Fin 2 → ℕ)) (off_blk (i 0))) _) (q_read arg13 _ _ (harg13.read_unread _) (i 0) 5 _ (congrArg (fun x : ℕ => (![x, 320] : Fin 2 → ℕ)) (off_blk (i 0))) _) (q_read arg13 _ _ (harg13.read_unread _) (i 0) 6 _ (congrArg (fun x : ℕ => (![x, 384] : Fin 2 → ℕ)) (off_blk (i 0))) _) (q_read arg13 _ _ (harg13.read_unread _) (i 0) 7 _ (congrArg (fun x : ℕ => (![x, 448] : Fin 2 → ℕ)) (off_blk (i 0))) _)
      (sc_read arg15 _ _ (harg15.read_unread _) (i 0) _ (congrArg (fun x : ℕ => (![x, 0] : Fin 2 → ℕ)) (off_blk (i 0))) _) (harg13.read_unread _) (harg16.read_unread _) rfl
  have key2 := congrArg (fun s => outV s z19) key
  refine Eq.trans ?_ key2
  refine congrArg (k0_pay105 _ _ _ _ _ _ _ _ _ _ _ _ _ _ _) ?_
  exact (rd_S512x512 _ _ _).trans (harg19.read_unread _)

set_option maxHeartbeats 2000000 in
/-- What the last point leaves in the joined rows. -/
theorem valC17 (c : Dev nD) (i : grid0.Coords) (arg1 : Memref sig .tc .smem S8 .i32) (harg1 : arg1.IsWhole) (arg2 : Memref sig .tc .smem S8 .i32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1536x512 .f32) (harg7 : arg7.IsWhole) (arg8 : Memref sig .tc .vmem S1x1536 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S2048x512 .f32) (harg11 : arg11.IsWhole) (arg12 : Memref sig .tc .vmem S2048x512 .bf16) (harg12 : arg12.IsWhole) (arg13 : Memref sig .tc .vmem S2048x1536 .bf16) (harg13 : arg13.IsWhole) (arg14 : Memref sig .tc .vmem S2048x2048 .bf16) (harg14 : arg14.IsWhole) (arg15 : Memref sig .tc .vmem S2048x1 .f32) (harg15 : arg15.IsWhole) (arg16 : Memref sig .tc .vmem S8x1x256 .f32) (harg16 : arg16.IsWhole) (arg17 : Memref sig .tc .vmem S2048x512 .bf16) (harg17 : arg17.IsWhole) (arg18 : Memref sig .tc .vmem S1536x512 .bf16) (harg18 : arg18.IsWhole) (arg19 : Memref sig .tc .vmem S512x512 .bf16) (harg19 : arg19.IsWhole)
    (hc0 : ¬cond0_0 i) (hc1 : cond0_1 i)
    (x0 : Vec F S8 .i32) (x1 : Vec F S8 .i32) (x2 : Vec F S2048x512 .f32) (x3 : Vec F S2048x1 .f32) (x4 : Vec F S1x512 .f32) (x5 : Vec F S1x512 .f32) (x6 : Vec F S1536x512 .f32) (x7 : Vec F S1x1536 .f32) (x8 : Vec F S512x512 .f32) (x9 : Vec F S1x512 .f32)
    (z11 : Vec F S2048x512 .f32) (z12 : Vec F S2048x512 .bf16) (z13 : Vec F S2048x1536 .bf16) (z14 : Vec F S2048x2048 .bf16) (z15 : Vec F S2048x1 .f32) (z16 : Vec F S8x1x256 .f32) (z17 : Vec F S2048x512 .bf16) (z18 : Vec F S1536x512 .bf16) (z19 : Vec F S512x512 .bf16)
    (lo hi : ℕ) (hlo : lo ≤ hi) (hhi : hi ≤ 8)
    (hchk : k0_chk1 (View.readAt (Elt F) arg1.view (Rect.unit (s := S8) (k0_off10 i) S1.size (k0_off10_inb i)).toLoadRect (harg1.unread x0) (Shape.Idx.first (show 0 < S1.numel by decide))) (View.readAt (Elt F) arg2.view (Rect.unit (s := S8) (k0_off10 i) S1.size (k0_off10_inb i)).toLoadRect (harg2.unread x1) (Shape.Idx.first (show 0 < S1.numel by decide)))) (e1 : (View.readAt (Elt F) arg1.view (Rect.unit (s := S8) (k0_off10 i) S1.size (k0_off10_inb i)).toLoadRect (harg1.unread x0) (Shape.Idx.first (show 0 < S1.numel by decide))) = BitVec.ofNat 32 lo) (e2 : (View.readAt (Elt F) arg2.view (Rect.unit (s := S8) (k0_off10 i) S1.size (k0_off10_inb i)).toLoadRect (harg2.unread x1) (Shape.Idx.first (show 0 < S1.numel by decide))) = BitVec.ofNat 32 hi) :
    arg17.view.read (Elt F) (arg17.view.writes (Elt F) (harg17.unread z17) (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 (harg11.unread z11) (harg12.unread z12) (harg13.unread z13) (harg14.unread z14) (harg15.unread z15) (harg16.unread z16) (harg17.unread z17) (harg18.unread z18) (harg19.unread z19) hchk).1.2) = (VecWindow.put (s := S2048x512) z17 ![256 * (i 0).val, 0] S256x512.size (blkV z13 z15 z16 z19 lo hi (i 0).val)) := by
  unfold runC
  dsimp only
  refine (View.read_writes_cons_put _ _ _ _ _ (congrArg (fun x : ℕ => (![x, 0] : Fin 2 → ℕ)) (off_blk (i 0)))).trans ?_
  refine congrArg₂ (fun z w => VecWindow.put (s := S2048x512) z _ _ w) (harg17.read_unread _) ?_
  exact blk_eq (hw1 := e1) (hw2 := e2) (hlo := hlo) (hhi := hhi) (hA := harg13.read_unread _) (hR := harg16.read_unread _) (hinit := rfl) (hwp := (rd_S512x512 _ _ _).trans (harg19.read_unread _))
    (hq0 := q_read arg13 _ _ (harg13.read_unread _) (i 0) 0 _ (congrArg (fun x : ℕ => (![x, 0] : Fin 2 → ℕ)) (off_blk (i 0))) _)
    (hq1 := q_read arg13 _ _ (harg13.read_unread _) (i 0) 1 _ (congrArg (fun x : ℕ => (![x, 64] : Fin 2 → ℕ)) (off_blk (i 0))) _)
    (hq2 := q_read arg13 _ _ (harg13.read_unread _) (i 0) 2 _ (congrArg (fun x : ℕ => (![x, 128] : Fin 2 → ℕ)) (off_blk (i 0))) _)
    (hq3 := q_read arg13 _ _ (harg13.read_unread _) (i 0) 3 _ (congrArg (fun x : ℕ => (![x, 192] : Fin 2 → ℕ)) (off_blk (i 0))) _)
    (hq4 := q_read arg13 _ _ (harg13.read_unread _) (i 0) 4 _ (congrArg (fun x : ℕ => (![x, 256] : Fin 2 → ℕ)) (off_blk (i 0))) _)
    (hq5 := q_read arg13 _ _ (harg13.read_unread _) (i 0) 5 _ (congrArg (fun x : ℕ => (![x, 320] : Fin 2 → ℕ)) (off_blk (i 0))) _)
    (hq6 := q_read arg13 _ _ (harg13.read_unread _) (i 0) 6 _ (congrArg (fun x : ℕ => (![x, 384] : Fin 2 → ℕ)) (off_blk (i 0))) _)
    (hq7 := q_read arg13 _ _ (harg13.read_unread _) (i 0) 7 _ (congrArg (fun x : ℕ => (![x, 448] : Fin 2 → ℕ)) (off_blk (i 0))) _)
    (hsc := sc_read arg15 _ _ (harg15.read_unread _) (i 0) _ (congrArg (fun x : ℕ => (![x, 0] : Fin 2 → ℕ)) (off_blk (i 0))) _) ..

set_option maxHeartbeats 2000000 in
/-- What the last point leaves in the output. -/
theorem valC11 (c : Dev nD) (i : grid0.Coords) (arg1 : Memref sig .tc .smem S8 .i32) (harg1 : arg1.IsWhole) (arg2 : Memref sig .tc .smem S8 .i32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1536x512 .f32) (harg7 : arg7.IsWhole) (arg8 : Memref sig .tc .vmem S1x1536 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S2048x512 .f32) (harg11 : arg11.IsWhole) (arg12 : Memref sig .tc .vmem S2048x512 .bf16) (harg12 : arg12.IsWhole) (arg13 : Memref sig .tc .vmem S2048x1536 .bf16) (harg13 : arg13.IsWhole) (arg14 : Memref sig .tc .vmem S2048x2048 .bf16) (harg14 : arg14.IsWhole) (arg15 : Memref sig .tc .vmem S2048x1 .f32) (harg15 : arg15.IsWhole) (arg16 : Memref sig .tc .vmem S8x1x256 .f32) (harg16 : arg16.IsWhole) (arg17 : Memref sig .tc .vmem S2048x512 .bf16) (harg17 : arg17.IsWhole) (arg18 : Memref sig .tc .vmem S1536x512 .bf16) (harg18 : arg18.IsWhole) (arg19 : Memref sig .tc .vmem S512x512 .bf16) (harg19 : arg19.IsWhole)
    (hc0 : ¬cond0_0 i) (hc1 : cond0_1 i)
    (x0 : Vec F S8 .i32) (x1 : Vec F S8 .i32) (x2 : Vec F S2048x512 .f32) (x3 : Vec F S2048x1 .f32) (x4 : Vec F S1x512 .f32) (x5 : Vec F S1x512 .f32) (x6 : Vec F S1536x512 .f32) (x7 : Vec F S1x1536 .f32) (x8 : Vec F S512x512 .f32) (x9 : Vec F S1x512 .f32)
    (z11 : Vec F S2048x512 .f32) (z12 : Vec F S2048x512 .bf16) (z13 : Vec F S2048x1536 .bf16) (z14 : Vec F S2048x2048 .bf16) (z15 : Vec F S2048x1 .f32) (z16 : Vec F S8x1x256 .f32) (z17 : Vec F S2048x512 .bf16) (z18 : Vec F S1536x512 .bf16) (z19 : Vec F S512x512 .bf16)
    (lo hi : ℕ) (hlo : lo ≤ hi) (hhi : hi ≤ 8)
    (hchk : k0_chk1 (View.readAt (Elt F) arg1.view (Rect.unit (s := S8) (k0_off10 i) S1.size (k0_off10_inb i)).toLoadRect (harg1.unread x0) (Shape.Idx.first (show 0 < S1.numel by decide))) (View.readAt (Elt F) arg2.view (Rect.unit (s := S8) (k0_off10 i) S1.size (k0_off10_inb i)).toLoadRect (harg2.unread x1) (Shape.Idx.first (show 0 < S1.numel by decide)))) (e1 : (View.readAt (Elt F) arg1.view (Rect.unit (s := S8) (k0_off10 i) S1.size (k0_off10_inb i)).toLoadRect (harg1.unread x0) (Shape.Idx.first (show 0 < S1.numel by decide))) = BitVec.ofNat 32 lo) (e2 : (View.readAt (Elt F) arg2.view (Rect.unit (s := S8) (k0_off10 i) S1.size (k0_off10_inb i)).toLoadRect (harg2.unread x1) (Shape.Idx.first (show 0 < S1.numel by decide))) = BitVec.ofNat 32 hi) :
    arg11.view.read (Elt F) (arg11.view.writes (Elt F) (harg11.unread z11) (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 (harg11.unread z11) (harg12.unread z12) (harg13.unread z13) (harg14.unread z14) (harg15.unread z15) (harg16.unread z16) (harg17.unread z17) (harg18.unread z18) (harg19.unread z19) hchk).1.1) = k0_pay1 z14 (VecWindow.put (s := S2048x512) z17 ![256 * (i 0).val, 0] S256x512.size (blkV z13 z15 z16 z19 lo hi (i 0).val)) x2 x9 := by
  have h17 := valC17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 z11 z12 z13 z14 z15 z16 z17 z18 z19 lo hi hlo hhi hchk e1 e2
  unfold runC at h17 ⊢
  dsimp only at h17 ⊢
  refine (View.read_writes_full _ _ _ _ _).trans ?_
  exact congrArgs4 k0_pay1 ((rd_S2048x2048 _ _ _).trans (harg14.read_unread _)) ((rd_S2048x512 _ _ _).trans h17) ((rd_S2048x512 _ _ _).trans (harg3.read_unread _)) ((rd_S1x512 _ _ _).trans (harg10.read_unread _))

end Cert.KernelIdeal.Hand
-- ==== Proof.OwnBC.lean ====
module

public import proofs.«01_k».proof.Proof.ValBC

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F] [Named F]

local notation "𝕄" => MT nD τ sig Unit (Elt F) ℕ (UR sig nD τ) ℕ

set_option maxHeartbeats 2000000 in
/-- A middle point at the level of values: the joined rows get the point's block, all else stays. -/
theorem runB_v (c : Dev nD) (i : grid0.Coords) (arg1 : Memref sig .tc .smem S8 .i32) (harg1 : arg1.IsWhole) (arg2 : Memref sig .tc .smem S8 .i32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1536x512 .f32) (harg7 : arg7.IsWhole) (arg8 : Memref sig .tc .vmem S1x1536 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S2048x512 .f32) (harg11 : arg11.IsWhole) (arg12 : Memref sig .tc .vmem S2048x512 .bf16) (harg12 : arg12.IsWhole) (arg13 : Memref sig .tc .vmem S2048x1536 .bf16) (harg13 : arg13.IsWhole) (arg14 : Memref sig .tc .vmem S2048x2048 .bf16) (harg14 : arg14.IsWhole) (arg15 : Memref sig .tc .vmem S2048x1 .f32) (harg15 : arg15.IsWhole) (arg16 : Memref sig .tc .vmem S8x1x256 .f32) (harg16 : arg16.IsWhole) (arg17 : Memref sig .tc .vmem S2048x512 .bf16) (harg17 : arg17.IsWhole) (arg18 : Memref sig .tc .vmem S1536x512 .bf16) (harg18 : arg18.IsWhole) (arg19 : Memref sig .tc .vmem S512x512 .bf16) (harg19 : arg19.IsWhole)
    (hc0 : ¬cond0_0 i) (hc1 : ¬cond0_1 i)
    (x0 : Vec F S8 .i32) (x1 : Vec F S8 .i32) (x2 : Vec F S2048x512 .f32) (x3 : Vec F S2048x1 .f32) (x4 : Vec F S1x512 .f32) (x5 : Vec F S1x512 .f32) (x6 : Vec F S1536x512 .f32) (x7 : Vec F S1x1536 .f32) (x8 : Vec F S512x512 .f32) (x9 : Vec F S1x512 .f32)
    (z11 : Vec F S2048x512 .f32) (z12 : Vec F S2048x512 .bf16) (z13 : Vec F S2048x1536 .bf16) (z14 : Vec F S2048x2048 .bf16) (z15 : Vec F S2048x1 .f32) (z16 : Vec F S8x1x256 .f32) (z17 : Vec F S2048x512 .bf16) (z18 : Vec F S1536x512 .bf16) (z19 : Vec F S512x512 .bf16)
    (lo hi : ℕ) (hlo : lo ≤ hi) (hhi : hi ≤ 8) (hw1 : x0 (ix1 (i 0)) = BitVec.ofNat 32 lo) (hw2 : x1 (ix1 (i 0)) = BitVec.ofNat 32 hi)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare z11 ∗ owns (c : Thread nD τ) arg12 fullShare z12 ∗ owns (c : Thread nD τ) arg13 fullShare z13 ∗ owns (c : Thread nD τ) arg14 fullShare z14 ∗ owns (c : Thread nD τ) arg15 fullShare z15 ∗ owns (c : Thread nD τ) arg16 fullShare z16 ∗ owns (c : Thread nD τ) arg17 fullShare z17 ∗ owns (c : Thread nD τ) arg18 fullShare z18 ∗ owns (c : Thread nD τ) arg19 fullShare z19
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare z11 ∗ owns (c : Thread nD τ) arg12 fullShare z12 ∗ owns (c : Thread nD τ) arg13 fullShare z13 ∗ owns (c : Thread nD τ) arg14 fullShare z14 ∗ owns (c : Thread nD τ) arg15 fullShare z15 ∗ owns (c : Thread nD τ) arg16 fullShare z16 ∗ owns (c : Thread nD τ) arg17 fullShare (VecWindow.put (s := S2048x512) z17 ![256 * (i 0).val, 0] S256x512.size (blkV z13 z15 z16 z19 lo hi (i 0).val)) ∗ owns (c : Thread nD τ) arg18 fullShare z18 ∗ owns (c : Thread nD τ) arg19 fullShare z19) -∗ K ⟨⟩))
      ⊢ wp frame (wpE (defs₀ (F := F)) Variants.none c none) E (cc0__attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have e1 := word_read arg1 harg1 x0 i _ hw1
  have e2 := word_read arg2 harg2 x1 i _ hw2
  have hchk : k0_chk1 (View.readAt (Elt F) arg1.view (Rect.unit (s := S8) (k0_off10 i) S1.size (k0_off10_inb i)).toLoadRect (harg1.unread x0) (Shape.Idx.first (show 0 < S1.numel by decide)))
      (View.readAt (Elt F) arg2.view (Rect.unit (s := S8) (k0_off10 i) S1.size (k0_off10_inb i)).toLoadRect (harg2.unread x1) (Shape.Idx.first (show 0 < S1.numel by decide))) := by
    rw [e1, e2]; exact chk_small ⟨lo, by omega⟩ ⟨hi, by omega⟩ hlo
  have v17 := valB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 z11 z12 z13 z14 z15 z16 z17 z18 z19 lo hi hlo hhi hchk e1 e2
  refine BIBase.Entails.trans ?_ ((runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 (harg11.unread z11) (harg12.unread z12) (harg13.unread z13) (harg14.unread z14) (harg15.unread z15) (harg16.unread z16) (harg17.unread z17) (harg18.unread z18) (harg19.unread z19) hchk).2 E K)
  unfold owns
  iintro ⟨H1, H2, H3, H4, H5, H6, H7, H8, H9, H10, ⟨%g11, %hg11, H11⟩, ⟨%g12, %hg12, H12⟩, ⟨%g13, %hg13, H13⟩, ⟨%g14, %hg14, H14⟩, ⟨%g15, %hg15, H15⟩, ⟨%g16, %hg16, H16⟩, ⟨%g17, %hg17, H17⟩, ⟨%g18, %hg18, H18⟩, ⟨%g19, %hg19, H19⟩, Hk⟩
  obtain rfl := harg11.eq_unread hg11; obtain rfl := harg12.eq_unread hg12; obtain rfl := harg13.eq_unread hg13; obtain rfl := harg14.eq_unread hg14; obtain rfl := harg15.eq_unread hg15; obtain rfl := harg16.eq_unread hg16; obtain rfl := harg17.eq_unread hg17; obtain rfl := harg18.eq_unread hg18; obtain rfl := harg19.eq_unread hg19
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H1, H2, H3, H4, H5, H6, H7, H8, H9, H10, H11, H12, H13, H14, H15, H16, H17, H18, H19⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitr; swap; · iexact H11
    ipureintro; exact harg11.read_unread _
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  isplitl [H16]
  · iexists _; isplitr; swap; · iexact H16
    ipureintro; exact harg16.read_unread _
  isplitl [H17]
  · iexists _; isplitr; swap; · iexact H17
    ipureintro; exact v17
  isplitl [H18]
  · iexists _; isplitr; swap; · iexact H18
    ipureintro; exact harg18.read_unread _
  iexists _; isplitr; swap; · iexact H19
  ipureintro; exact harg19.read_unread _

set_option maxHeartbeats 2000000 in
/-- The last point at the level of values: the joined rows get the last block, and the output is formed. -/
theorem runC_v (c : Dev nD) (i : grid0.Coords) (arg1 : Memref sig .tc .smem S8 .i32) (harg1 : arg1.IsWhole) (arg2 : Memref sig .tc .smem S8 .i32) (harg2 : arg2.IsWhole) (arg3 : Memref sig .tc .vmem S2048x512 .f32) (harg3 : arg3.IsWhole) (arg4 : Memref sig .tc .vmem S2048x1 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S1536x512 .f32) (harg7 : arg7.IsWhole) (arg8 : Memref sig .tc .vmem S1x1536 .f32) (harg8 : arg8.IsWhole) (arg9 : Memref sig .tc .vmem S512x512 .f32) (harg9 : arg9.IsWhole) (arg10 : Memref sig .tc .vmem S1x512 .f32) (harg10 : arg10.IsWhole) (arg11 : Memref sig .tc .vmem S2048x512 .f32) (harg11 : arg11.IsWhole) (arg12 : Memref sig .tc .vmem S2048x512 .bf16) (harg12 : arg12.IsWhole) (arg13 : Memref sig .tc .vmem S2048x1536 .bf16) (harg13 : arg13.IsWhole) (arg14 : Memref sig .tc .vmem S2048x2048 .bf16) (harg14 : arg14.IsWhole) (arg15 : Memref sig .tc .vmem S2048x1 .f32) (harg15 : arg15.IsWhole) (arg16 : Memref sig .tc .vmem S8x1x256 .f32) (harg16 : arg16.IsWhole) (arg17 : Memref sig .tc .vmem S2048x512 .bf16) (harg17 : arg17.IsWhole) (arg18 : Memref sig .tc .vmem S1536x512 .bf16) (harg18 : arg18.IsWhole) (arg19 : Memref sig .tc .vmem S512x512 .bf16) (harg19 : arg19.IsWhole)
    (hc0 : ¬cond0_0 i) (hc1 : cond0_1 i)
    (x0 : Vec F S8 .i32) (x1 : Vec F S8 .i32) (x2 : Vec F S2048x512 .f32) (x3 : Vec F S2048x1 .f32) (x4 : Vec F S1x512 .f32) (x5 : Vec F S1x512 .f32) (x6 : Vec F S1536x512 .f32) (x7 : Vec F S1x1536 .f32) (x8 : Vec F S512x512 .f32) (x9 : Vec F S1x512 .f32)
    (z11 : Vec F S2048x512 .f32) (z12 : Vec F S2048x512 .bf16) (z13 : Vec F S2048x1536 .bf16) (z14 : Vec F S2048x2048 .bf16) (z15 : Vec F S2048x1 .f32) (z16 : Vec F S8x1x256 .f32) (z17 : Vec F S2048x512 .bf16) (z18 : Vec F S1536x512 .bf16) (z19 : Vec F S512x512 .bf16)
    (lo hi : ℕ) (hlo : lo ≤ hi) (hhi : hi ≤ 8) (hw1 : x0 (ix1 (i 0)) = BitVec.ofNat 32 lo) (hw2 : x1 (ix1 (i 0)) = BitVec.ofNat 32 hi)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare z11 ∗ owns (c : Thread nD τ) arg12 fullShare z12 ∗ owns (c : Thread nD τ) arg13 fullShare z13 ∗ owns (c : Thread nD τ) arg14 fullShare z14 ∗ owns (c : Thread nD τ) arg15 fullShare z15 ∗ owns (c : Thread nD τ) arg16 fullShare z16 ∗ owns (c : Thread nD τ) arg17 fullShare z17 ∗ owns (c : Thread nD τ) arg18 fullShare z18 ∗ owns (c : Thread nD τ) arg19 fullShare z19
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (k0_pay1 z14 (VecWindow.put (s := S2048x512) z17 ![256 * (i 0).val, 0] S256x512.size (blkV z13 z15 z16 z19 lo hi (i 0).val)) x2 x9) ∗ owns (c : Thread nD τ) arg12 fullShare z12 ∗ owns (c : Thread nD τ) arg13 fullShare z13 ∗ owns (c : Thread nD τ) arg14 fullShare z14 ∗ owns (c : Thread nD τ) arg15 fullShare z15 ∗ owns (c : Thread nD τ) arg16 fullShare z16 ∗ owns (c : Thread nD τ) arg17 fullShare (VecWindow.put (s := S2048x512) z17 ![256 * (i 0).val, 0] S256x512.size (blkV z13 z15 z16 z19 lo hi (i 0).val)) ∗ owns (c : Thread nD τ) arg18 fullShare z18 ∗ owns (c : Thread nD τ) arg19 fullShare z19) -∗ K ⟨⟩))
      ⊢ wp frame (wpE (defs₀ (F := F)) Variants.none c none) E (cc0__attn_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  have e1 := word_read arg1 harg1 x0 i _ hw1
  have e2 := word_read arg2 harg2 x1 i _ hw2
  have hchk : k0_chk1 (View.readAt (Elt F) arg1.view (Rect.unit (s := S8) (k0_off10 i) S1.size (k0_off10_inb i)).toLoadRect (harg1.unread x0) (Shape.Idx.first (show 0 < S1.numel by decide)))
      (View.readAt (Elt F) arg2.view (Rect.unit (s := S8) (k0_off10 i) S1.size (k0_off10_inb i)).toLoadRect (harg2.unread x1) (Shape.Idx.first (show 0 < S1.numel by decide))) := by
    rw [e1, e2]; exact chk_small ⟨lo, by omega⟩ ⟨hi, by omega⟩ hlo
  have v17 := valC17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 z11 z12 z13 z14 z15 z16 z17 z18 z19 lo hi hlo hhi hchk e1 e2
  have v11 := valC11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 z11 z12 z13 z14 z15 z16 z17 z18 z19 lo hi hlo hhi hchk e1 e2
  refine BIBase.Entails.trans ?_ ((runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 (harg11.unread z11) (harg12.unread z12) (harg13.unread z13) (harg14.unread z14) (harg15.unread z15) (harg16.unread z16) (harg17.unread z17) (harg18.unread z18) (harg19.unread z19) hchk).2 E K)
  unfold owns
  iintro ⟨H1, H2, H3, H4, H5, H6, H7, H8, H9, H10, ⟨%g11, %hg11, H11⟩, ⟨%g12, %hg12, H12⟩, ⟨%g13, %hg13, H13⟩, ⟨%g14, %hg14, H14⟩, ⟨%g15, %hg15, H15⟩, ⟨%g16, %hg16, H16⟩, ⟨%g17, %hg17, H17⟩, ⟨%g18, %hg18, H18⟩, ⟨%g19, %hg19, H19⟩, Hk⟩
  obtain rfl := harg11.eq_unread hg11; obtain rfl := harg12.eq_unread hg12; obtain rfl := harg13.eq_unread hg13; obtain rfl := harg14.eq_unread hg14; obtain rfl := harg15.eq_unread hg15; obtain rfl := harg16.eq_unread hg16; obtain rfl := harg17.eq_unread hg17; obtain rfl := harg18.eq_unread hg18; obtain rfl := harg19.eq_unread hg19
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iintro ⟨H1, H2, H3, H4, H5, H6, H7, H8, H9, H10, H11, H12, H13, H14, H15, H16, H17, H18, H19⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitr; swap; · iexact H11
    ipureintro; exact v11
  isplitl [H12]
  · iexists _; isplitr; swap; · iexact H12
    ipureintro; exact harg12.read_unread _
  isplitl [H13]
  · iexists _; isplitr; swap; · iexact H13
    ipureintro; exact harg13.read_unread _
  isplitl [H14]
  · iexists _; isplitr; swap; · iexact H14
    ipureintro; exact harg14.read_unread _
  isplitl [H15]
  · iexists _; isplitr; swap; · iexact H15
    ipureintro; exact harg15.read_unread _
  isplitl [H16]
  · iexists _; isplitr; swap; · iexact H16
    ipureintro; exact harg16.read_unread _
  isplitl [H17]
  · iexists _; isplitr; swap; · iexact H17
    ipureintro; exact v17
  isplitl [H18]
  · iexists _; isplitr; swap; · iexact H18
    ipureintro; exact harg18.read_unread _
  iexists _; isplitr; swap; · iexact H19
  ipureintro; exact harg19.read_unread _

end Cert.KernelIdeal.Hand
-- ==== Proof.FrDat.lean ====
module

public import proofs.«01_k».proof.Proof.Gen.KernelIdeal.Frame
public import proofs.«01_k».proof.Proof.Gen.KernelIdeal.Launch
public import proofs.«01_k».proof.Proof.Gen.KernelIdeal.Points
public import proofs.«01_k».proof.Proof.HostRead
public import proofs.«01_k».proof.Proof.RunA
public import proofs.«01_k».proof.Proof.OwnBC
public import Idealize.ShloMosaic.Lib.Pipeline.FrameBody
public import Idealize.ShloMosaic.Lib.Pipeline.Value
public import Idealize.ShloMosaic.Lib.Ring
public import Idealize.ShloMosaic.Lib.WordCmp
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F] [Named F]

local notation "𝕄" => MT nD τ sig Unit (Elt F) ℕ (UR sig nD τ) ℕ

attribute [local irreducible] st_k0_t1 stV Scf.trips

variable (m : (ℓ : Loc nD τ sig) → Buf (Elt F) ℓ) (ρ : Dev nD → PrngReg)

/-! ### The grid's points -/

/-- The grid coordinate of step `t` is `t`. -/
theorem coords_zero (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

/-- The prologue runs at the first point only. -/
theorem hcond0 (t : Fin cfg0.N) : cond0_0 (grid0.coords t) ↔ t.val = 0 := by
  have ht : t.val < 8 := Nat.lt_of_lt_of_eq t.isLt N_0
  simp only [cond0_0, coords_zero]
  word_cmp

/-- The output is formed at the last point only. -/
theorem hcond1 (t : Fin cfg0.N) : cond0_1 (grid0.coords t) ↔ t.val = 7 := by
  have ht : t.val < 8 := Nat.lt_of_lt_of_eq t.isLt N_0
  simp only [cond0_1, k0_cond2, coords_zero]
  word_cmp

/-! ### The windows' blocks are their whole arrays -/

/-- The window of the lower bounds holds the whole array. -/
theorem iblk_0 (c : Dev nD) (t : Fin cfg0.N) : iblk m c 0 t = (V m c main_call0_v40 : Vec F S8 .i32) := by
  unfold iblk
  rw [show V m c (Pipeline.arrRef spec0 0) = V m c main_call0_v40 from rfl]
  generalize V m c main_call0_v40 = X
  funext y
  show X (((cfg0.win 0).rect t).emb y) = X y
  refine congrArg X (funext fun a => Fin.ext ?_)
  exact Pipeline.Window.rect_emb_val_of_index_zero win0_0 t a (by match a with | ⟨0, _⟩ => rfl) y

/-- The window of the upper bounds holds the whole array. -/
theorem iblk_1 (c : Dev nD) (t : Fin cfg0.N) : iblk m c 1 t = (V m c main_call0_v52 : Vec F S8 .i32) := by
  unfold iblk
  rw [show V m c (Pipeline.arrRef spec0 1) = V m c main_call0_v52 from rfl]
  generalize V m c main_call0_v52 = X
  funext y
  show X (((cfg0.win 1).rect t).emb y) = X y
  refine congrArg X (funext fun a => Fin.ext ?_)
  exact Pipeline.Window.rect_emb_val_of_index_zero win0_1 t a (by match a with | ⟨0, _⟩ => rfl) y

/-- The window of the input holds the whole array. -/
theorem iblk_2 (c : Dev nD) (t : Fin cfg0.N) : iblk m c 2 t = (V m c main_arg0 : Vec F S2048x512 .f32) := by
  unfold iblk
  rw [show V m c (Pipeline.arrRef spec0 2) = V m c main_arg0 from rfl]
  generalize V m c main_arg0 = X
  funext y
  show X (((cfg0.win 2).rect t).emb y) = X y
  refine congrArg X (funext fun a => Fin.ext ?_)
  exact Pipeline.Window.rect_emb_val_of_index_zero win0_2 t a (by match a with | ⟨0, _⟩ => rfl | ⟨1, _⟩ => rfl) y

/-- The window of the column of ids holds the whole array. -/
theorem iblk_3 (c : Dev nD) (t : Fin cfg0.N) : iblk m c 3 t = (V m c main_call0_v1 : Vec F S2048x1 .f32) := by
  unfold iblk
  rw [show V m c (Pipeline.arrRef spec0 3) = V m c main_call0_v1 from rfl]
  generalize V m c main_call0_v1 = X
  funext y
  show X (((cfg0.win 3).rect t).emb y) = X y
  refine congrArg X (funext fun a => Fin.ext ?_)
  exact Pipeline.Window.rect_emb_val_of_index_zero win0_3 t a (by match a with | ⟨0, _⟩ => rfl | ⟨1, _⟩ => rfl) y

/-- The window of the scale row holds the whole array. -/
theorem iblk_4 (c : Dev nD) (t : Fin cfg0.N) : iblk m c 4 t = (V m c main_call0_v53 : Vec F S1x512 .f32) := by
  unfold iblk
  rw [show V m c (Pipeline.arrRef spec0 4) = V m c main_call0_v53 from rfl]
  generalize V m c main_call0_v53 = X
  funext y
  show X (((cfg0.win 4).rect t).emb y) = X y
  refine congrArg X (funext fun a => Fin.ext ?_)
  exact Pipeline.Window.rect_emb_val_of_index_zero win0_4 t a (by match a with | ⟨0, _⟩ => rfl | ⟨1, _⟩ => rfl) y

/-- The window of the offset row holds the whole array. -/
theorem iblk_5 (c : Dev nD) (t : Fin cfg0.N) : iblk m c 5 t = (V m c main_call0_v54 : Vec F S1x512 .f32) := by
  unfold iblk
  rw [show V m c (Pipeline.arrRef spec0 5) = V m c main_call0_v54 from rfl]
  generalize V m c main_call0_v54 = X
  funext y
  show X (((cfg0.win 5).rect t).emb y) = X y
  refine congrArg X (funext fun a => Fin.ext ?_)
  exact Pipeline.Window.rect_emb_val_of_index_zero win0_5 t a (by match a with | ⟨0, _⟩ => rfl | ⟨1, _⟩ => rfl) y

/-- The window of the joint projection holds the whole array. -/
theorem iblk_6 (c : Dev nD) (t : Fin cfg0.N) : iblk m c 6 t = (V m c main_arg4 : Vec F S1536x512 .f32) := by
  unfold iblk
  rw [show V m c (Pipeline.arrRef spec0 6) = V m c main_arg4 from rfl]
  generalize V m c main_arg4 = X
  funext y
  show X (((cfg0.win 6).rect t).emb y) = X y
  refine congrArg X (funext fun a => Fin.ext ?_)
  exact Pipeline.Window.rect_emb_val_of_index_zero win0_6 t a (by match a with | ⟨0, _⟩ => rfl | ⟨1, _⟩ => rfl) y

/-- The window of its bias holds the whole array. -/
theorem iblk_7 (c : Dev nD) (t : Fin cfg0.N) : iblk m c 7 t = (V m c main_call0_v55 : Vec F S1x1536 .f32) := by
  unfold iblk
  rw [show V m c (Pipeline.arrRef spec0 7) = V m c main_call0_v55 from rfl]
  generalize V m c main_call0_v55 = X
  funext y
  show X (((cfg0.win 7).rect t).emb y) = X y
  refine congrArg X (funext fun a => Fin.ext ?_)
  exact Pipeline.Window.rect_emb_val_of_index_zero win0_7 t a (by match a with | ⟨0, _⟩ => rfl | ⟨1, _⟩ => rfl) y

/-- The window of the output projection holds the whole array. -/
theorem iblk_8 (c : Dev nD) (t : Fin cfg0.N) : iblk m c 8 t = (V m c main_arg6 : Vec F S512x512 .f32) := by
  unfold iblk
  rw [show V m c (Pipeline.arrRef spec0 8) = V m c main_arg6 from rfl]
  generalize V m c main_arg6 = X
  funext y
  show X (((cfg0.win 8).rect t).emb y) = X y
  refine congrArg X (funext fun a => Fin.ext ?_)
  exact Pipeline.Window.rect_emb_val_of_index_zero win0_8 t a (by match a with | ⟨0, _⟩ => rfl | ⟨1, _⟩ => rfl) y

/-- The window of the output bias holds the whole array. -/
theorem iblk_9 (c : Dev nD) (t : Fin cfg0.N) : iblk m c 9 t = (V m c main_call0_v56 : Vec F S1x512 .f32) := by
  unfold iblk
  rw [show V m c (Pipeline.arrRef spec0 9) = V m c main_call0_v56 from rfl]
  generalize V m c main_call0_v56 = X
  funext y
  show X (((cfg0.win 9).rect t).emb y) = X y
  refine congrArg X (funext fun a => Fin.ext ?_)
  exact Pipeline.Window.rect_emb_val_of_index_zero win0_9 t a (by match a with | ⟨0, _⟩ => rfl | ⟨1, _⟩ => rfl) y
abbrev ms0_0 (t : Fin cfg0.N) : Memref sig .tc .smem S8 .i32 := win0_0.stage (cfg0.slots t 0)
abbrev ms0_1 (t : Fin cfg0.N) : Memref sig .tc .smem S8 .i32 := win0_1.stage (cfg0.slots t 1)
abbrev ms0_2 (t : Fin cfg0.N) : Memref sig .tc .vmem S2048x512 .f32 := win0_2.stage (cfg0.slots t 2)
abbrev ms0_3 (t : Fin cfg0.N) : Memref sig .tc .vmem S2048x1 .f32 := win0_3.stage (cfg0.slots t 3)
abbrev ms0_4 (t : Fin cfg0.N) : Memref sig .tc .vmem S1x512 .f32 := win0_4.stage (cfg0.slots t 4)
abbrev ms0_5 (t : Fin cfg0.N) : Memref sig .tc .vmem S1x512 .f32 := win0_5.stage (cfg0.slots t 5)
abbrev ms0_6 (t : Fin cfg0.N) : Memref sig .tc .vmem S1536x512 .f32 := win0_6.stage (cfg0.slots t 6)
abbrev ms0_7 (t : Fin cfg0.N) : Memref sig .tc .vmem S1x1536 .f32 := win0_7.stage (cfg0.slots t 7)
abbrev ms0_8 (t : Fin cfg0.N) : Memref sig .tc .vmem S512x512 .f32 := win0_8.stage (cfg0.slots t 8)
abbrev ms0_9 (t : Fin cfg0.N) : Memref sig .tc .vmem S1x512 .f32 := win0_9.stage (cfg0.slots t 9)
abbrev ms0_10 (t : Fin cfg0.N) : Memref sig .tc .vmem S2048x512 .f32 := win0_10.stage (cfg0.slots t 10)
abbrev sc0_0 : Memref sig .tc .vmem S2048x512 .bf16 := Memref.whole cc0_scratch0
abbrev sc0_1 : Memref sig .tc .vmem S2048x1536 .bf16 := Memref.whole cc0_scratch1
abbrev sc0_2 : Memref sig .tc .vmem S2048x2048 .bf16 := Memref.whole cc0_scratch2
abbrev sc0_3 : Memref sig .tc .vmem S2048x1 .f32 := Memref.whole cc0_scratch3
abbrev sc0_4 : Memref sig .tc .vmem S8x1x256 .f32 := Memref.whole cc0_scratch4
abbrev sc0_5 : Memref sig .tc .vmem S2048x512 .bf16 := Memref.whole cc0_scratch5
abbrev sc0_6 : Memref sig .tc .vmem S1536x512 .bf16 := Memref.whole cc0_scratch6
abbrev sc0_7 : Memref sig .tc .vmem S512x512 .bf16 := Memref.whole cc0_scratch7

/-- The launch's invariant with the scratch buffers owned at some contents. -/
theorem PhiA0_eq (c : Dev nD) :
    (Pipeline.ΦA spec0 c : sProp 𝕄) = iprop(iprop((∃ d, owns (c : Thread nD τ) sc0_0 fullShare d) ∗ (∃ d, owns (c : Thread nD τ) sc0_1 fullShare d) ∗ (∃ d, owns (c : Thread nD τ) sc0_2 fullShare d) ∗ (∃ d, owns (c : Thread nD τ) sc0_3 fullShare d) ∗ (∃ d, owns (c : Thread nD τ) sc0_4 fullShare d) ∗ (∃ d, owns (c : Thread nD τ) sc0_5 fullShare d) ∗ (∃ d, owns (c : Thread nD τ) sc0_6 fullShare d) ∗ (∃ d, owns (c : Thread nD τ) sc0_7 fullShare d)) ∗ (∃ r, prngReg c r)) := by
  unfold Pipeline.ΦA; rw [scopedRest0_eq]; simp only [sc0_0, sc0_1, sc0_2, sc0_3, sc0_4, sc0_5, sc0_6, sc0_7, owns_whole]; try rfl

/-! ### What the scratch buffers hold after the first point -/

/-- The ids as the launch finds them. -/
abbrev idsA (c : Dev nD) : IVec S2048 32 := m ((c.tc : Thread nD τ).loc main_arg1)
/-- The joint projection of the sorted rows. -/
def joint (c : Dev nD) : Vec F S2048x1536 .bf16 := qkvV (V m c main_arg0) (V m c main_call0_v1) (V m c main_call0_v53) (V m c main_call0_v54) (V m c main_arg4) (V m c main_call0_v55)
/-- The sorting matrix. -/
def perm (c : Dev nD) : Vec F S2048x2048 .bf16 := ptV (V m c main_call0_v1)
/-- The sorted group numbers as a column. -/
def colI (c : Dev nD) : Vec F S2048x1 .f32 := scolV (V m c main_call0_v1)
/-- The sorted group numbers as rows. -/
def rowI (c : Dev nD) : Vec F S8x1x256 .f32 := srowV (V m c main_call0_v1)
/-- The rounded output projection. -/
def outW (c : Dev nD) : Vec F S512x512 .bf16 := wpV (V m c main_arg6)
/-- Block `t` of the joined rows. -/
def blockAt (c : Dev nD) (t : ℕ) : Vec F S256x512 .bf16 :=
  blkV (joint m c) (colI m c) (rowI m c) (outW m c) (lobN (idsA m c) t) (hibN (idsA m c) t) t
/-- The joined rows. -/
def joined (c : Dev nD) : Vec F S2048x512 .bf16 := fun y =>
  blockAt m c ((y 0).val / 256) (ix2 (⟨(y 0).val % 256, Nat.mod_lt _ (by decide)⟩ : Fin 256) (y 1))
/-- The result. -/
def outV0 (c : Dev nD) : Vec F S2048x512 .f32 := k0_pay1 (perm m c) (joined m c) (V m c main_arg0) (V m c main_call0_v56)
/-- The first `n` blocks of a buffer are those of the joined rows. -/
def agrees (c : Dev nD) (d : Vec F S2048x512 .bf16) (n : ℕ) : Prop := ∀ y : S2048x512.Idx, (y 0).val < 256 * n → d y = joined m c y

/-- Storing block `n` extends the agreement by one block. -/
theorem agrees_put (c : Dev nD) (d : Vec F S2048x512 .bf16) (n : ℕ) (h : agrees m c d n) :
    agrees m c (VecWindow.put (s := S2048x512) d ![256 * n, 0] S256x512.size (blockAt m c n)) (n + 1) := by
  intro y hy
  by_cases hl : (y 0).val < 256 * n
  · refine (dif_neg fun H => ?_).trans (h y hl)
    have h0 : 256 * n ≤ (y 0).val ∧ (y 0).val < 256 * n + 256 := H 0
    omega
  · have h1 : (y 1).val < 512 := (y 1).isLt
    have H : ∀ a, (![256 * n, 0] : Fin 2 → ℕ) a ≤ (y a).val ∧ (y a).val < (![256 * n, 0] : Fin 2 → ℕ) a + S256x512.size a := fun a =>
      match a with
      | ⟨0, _⟩ => (show 256 * n ≤ (y 0).val ∧ (y 0).val < 256 * n + 256 by omega)
      | ⟨1, _⟩ => (show 0 ≤ (y 1).val ∧ (y 1).val < 0 + 512 by omega)
    refine (dif_pos H).trans ?_
    have e : (y 0).val / 256 = n := by omega
    unfold joined
    rw [e]
    refine congrArg _ (funext fun a => Fin.ext ?_)
    match a with
    | ⟨0, _⟩ => exact (show (y 0).val - 256 * n = (y 0).val % 256 by omega)
    | ⟨1, _⟩ => exact (show (y 1).val - 0 = (y 1).val by omega)

/-- A buffer whose eight blocks agree is the joined rows. -/
theorem agrees_all (c : Dev nD) (d : Vec F S2048x512 .bf16) (h : agrees m c d 8) : d = joined m c :=
  funext fun y => h y (show (y 0).val < 256 * 8 from (y 0).isLt)

/-- No block has to agree before the first step. -/
theorem agrees_none (c : Dev nD) (d : Vec F S2048x512 .bf16) (n : ℕ) (hn : n = 0) : agrees m c d n := fun y hy => absurd hy (by omega)

/-- The result stored at the last step is the one made from the joined rows. -/
theorem last_eq (c : Dev nD) (d : Vec F S2048x512 .bf16) (n : ℕ) (hn : n = 7) (h : agrees m c d (n + 1)) (P : Vec F S2048x2048 .bf16) (X : Vec F S2048x512 .f32) (b : Vec F S1x512 .f32) :
    k0_pay1 P d X b = k0_pay1 P (joined m c) X b := by
  subst hn; rw [agrees_all m c d h]

/-- The invariant before point `n`. -/
def PhiS (c : Dev nD) : ℕ → sProp 𝕄
  | 0 => Pipeline.ΦA spec0 c
  | n + 1 => iprop(iprop((∃ d, owns (c : Thread nD τ) sc0_0 fullShare d) ∗ owns (c : Thread nD τ) sc0_1 fullShare (joint m c) ∗ owns (c : Thread nD τ) sc0_2 fullShare (perm m c) ∗ owns (c : Thread nD τ) sc0_3 fullShare (colI m c) ∗ owns (c : Thread nD τ) sc0_4 fullShare (rowI m c) ∗ (∃ d, ⌜agrees m c d (n + 1)⌝ ∗ owns (c : Thread nD τ) sc0_5 fullShare d) ∗ (∃ d, owns (c : Thread nD τ) sc0_6 fullShare d) ∗ owns (c : Thread nD τ) sc0_7 fullShare (outW m c)) ∗ (∃ r, prngReg c r))

/-- The invariant before the first step. -/
theorem PhiS_zero (c : Dev nD) (n : ℕ) (hz : n = 0) : PhiS m c n = Pipeline.ΦA spec0 c := by subst hz; rfl
/-- The invariant after a step. -/
theorem PhiS_succ (c : Dev nD) (n : ℕ) : PhiS m c (n + 1) = iprop(iprop((∃ d, owns (c : Thread nD τ) sc0_0 fullShare d) ∗ owns (c : Thread nD τ) sc0_1 fullShare (joint m c) ∗ owns (c : Thread nD τ) sc0_2 fullShare (perm m c) ∗ owns (c : Thread nD τ) sc0_3 fullShare (colI m c) ∗ owns (c : Thread nD τ) sc0_4 fullShare (rowI m c) ∗ (∃ d, ⌜agrees m c d (n + 1)⌝ ∗ owns (c : Thread nD τ) sc0_5 fullShare d) ∗ (∃ d, owns (c : Thread nD τ) sc0_6 fullShare d) ∗ owns (c : Thread nD τ) sc0_7 fullShare (outW m c)) ∗ (∃ r, prngReg c r)) := rfl
/-- The invariant before a step that is not the first. -/
theorem PhiS_pos (c : Dev nD) (n : ℕ) (hz : n ≠ 0) : PhiS m c n = iprop(iprop((∃ d, owns (c : Thread nD τ) sc0_0 fullShare d) ∗ owns (c : Thread nD τ) sc0_1 fullShare (joint m c) ∗ owns (c : Thread nD τ) sc0_2 fullShare (perm m c) ∗ owns (c : Thread nD τ) sc0_3 fullShare (colI m c) ∗ owns (c : Thread nD τ) sc0_4 fullShare (rowI m c) ∗ (∃ d, ⌜agrees m c d (n)⌝ ∗ owns (c : Thread nD τ) sc0_5 fullShare d) ∗ (∃ d, owns (c : Thread nD τ) sc0_6 fullShare d) ∗ owns (c : Thread nD τ) sc0_7 fullShare (outW m c)) ∗ (∃ r, prngReg c r)) := by
  cases n with
  | zero => exact absurd rfl hz
  | succ n => rfl

/-- The pipeline's proof data: each input window keeps its block, the output holds the result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outV0 m c
  Φ t := PhiS m c t.val
  q _ := fullShare
  owed _ := 0

/-- The arrays the pipeline starts from are the ones the host code left. -/
theorem A_eq (c : Dev nD) (w : Fin cfg0.W) : (dats m 0 c).A w = V m c (Pipeline.arrRef spec0 w) := by
  dsimp only [dats]

/-- The pipeline's invariant before step `t` is the one stated here. -/
theorem PhiS_castSucc (c : Dev nD) (t : Fin cfg0.N) : (dats m 0 c).Φ t.castSucc = PhiS m c t.val := by
  dsimp only [dats]; rfl

/-- A step leaves the lower bounds as they were. -/
theorem after0_0 (c : Dev nD) (t : Fin cfg0.N) : (dats m 0 c).after 0 t = iblk m c 0 t := by dsimp only [dats]
/-- A step leaves the upper bounds as they were. -/
theorem after0_1 (c : Dev nD) (t : Fin cfg0.N) : (dats m 0 c).after 1 t = iblk m c 1 t := by dsimp only [dats]
/-- A step leaves the input as it was. -/
theorem after0_2 (c : Dev nD) (t : Fin cfg0.N) : (dats m 0 c).after 2 t = iblk m c 2 t := by dsimp only [dats]
/-- A step leaves the column of ids as it was. -/
theorem after0_3 (c : Dev nD) (t : Fin cfg0.N) : (dats m 0 c).after 3 t = iblk m c 3 t := by dsimp only [dats]
/-- A step leaves the scale row as it was. -/
theorem after0_4 (c : Dev nD) (t : Fin cfg0.N) : (dats m 0 c).after 4 t = iblk m c 4 t := by dsimp only [dats]
/-- A step leaves the offset row as it was. -/
theorem after0_5 (c : Dev nD) (t : Fin cfg0.N) : (dats m 0 c).after 5 t = iblk m c 5 t := by dsimp only [dats]
/-- A step leaves the joint projection as it was. -/
theorem after0_6 (c : Dev nD) (t : Fin cfg0.N) : (dats m 0 c).after 6 t = iblk m c 6 t := by dsimp only [dats]
/-- A step leaves its bias as it was. -/
theorem after0_7 (c : Dev nD) (t : Fin cfg0.N) : (dats m 0 c).after 7 t = iblk m c 7 t := by dsimp only [dats]
/-- A step leaves the output projection as it was. -/
theorem after0_8 (c : Dev nD) (t : Fin cfg0.N) : (dats m 0 c).after 8 t = iblk m c 8 t := by dsimp only [dats]
/-- A step leaves the output bias as it was. -/
theorem after0_9 (c : Dev nD) (t : Fin cfg0.N) : (dats m 0 c).after 9 t = iblk m c 9 t := by dsimp only [dats]
/-- The result after a step. -/
theorem after0_10 (c : Dev nD) (t : Fin cfg0.N) : (dats m 0 c).after 10 t = outV0 m c := by dsimp only [dats]
/-- What a step finds of the lower bounds. -/
theorem before0_0 (c : Dev nD) (t : Fin cfg0.N) (d) : (dats m 0 c).before 0 t d = iblk m c 0 t :=
  before0_0_of m (dats m 0 c) (A_eq m c 0) (after0_0 m c) t d
/-- What a step finds of the upper bounds. -/
theorem before0_1 (c : Dev nD) (t : Fin cfg0.N) (d) : (dats m 0 c).before 1 t d = iblk m c 1 t :=
  before0_1_of m (dats m 0 c) (A_eq m c 1) (after0_1 m c) t d
/-- What a step finds of the input. -/
theorem before0_2 (c : Dev nD) (t : Fin cfg0.N) (d) : (dats m 0 c).before 2 t d = iblk m c 2 t :=
  before0_2_of m (dats m 0 c) (A_eq m c 2) (after0_2 m c) t d
/-- What a step finds of the column of ids. -/
theorem before0_3 (c : Dev nD) (t : Fin cfg0.N) (d) : (dats m 0 c).before 3 t d = iblk m c 3 t :=
  before0_3_of m (dats m 0 c) (A_eq m c 3) (after0_3 m c) t d
/-- What a step finds of the scale row. -/
theorem before0_4 (c : Dev nD) (t : Fin cfg0.N) (d) : (dats m 0 c).before 4 t d = iblk m c 4 t :=
  before0_4_of m (dats m 0 c) (A_eq m c 4) (after0_4 m c) t d
/-- What a step finds of the offset row. -/
theorem before0_5 (c : Dev nD) (t : Fin cfg0.N) (d) : (dats m 0 c).before 5 t d = iblk m c 5 t :=
  before0_5_of m (dats m 0 c) (A_eq m c 5) (after0_5 m c) t d
/-- What a step finds of the joint projection. -/
theorem before0_6 (c : Dev nD) (t : Fin cfg0.N) (d) : (dats m 0 c).before 6 t d = iblk m c 6 t :=
  before0_6_of m (dats m 0 c) (A_eq m c 6) (after0_6 m c) t d
/-- What a step finds of its bias. -/
theorem before0_7 (c : Dev nD) (t : Fin cfg0.N) (d) : (dats m 0 c).before 7 t d = iblk m c 7 t :=
  before0_7_of m (dats m 0 c) (A_eq m c 7) (after0_7 m c) t d
/-- What a step finds of the output projection. -/
theorem before0_8 (c : Dev nD) (t : Fin cfg0.N) (d) : (dats m 0 c).before 8 t d = iblk m c 8 t :=
  before0_8_of m (dats m 0 c) (A_eq m c 8) (after0_8 m c) t d
/-- What a step finds of the output bias. -/
theorem before0_9 (c : Dev nD) (t : Fin cfg0.N) (d) : (dats m 0 c).before 9 t d = iblk m c 9 t :=
  before0_9_of m (dats m 0 c) (A_eq m c 9) (after0_9 m c) t d
/-- What a step gives back of the lower bounds. -/
theorem leaves0_0 (c : Dev nD) (t : Fin cfg0.N) : (dats m 0 c).leavesExact 0 t = owns (c : Thread nD τ) (ms0_0 t) fullShare (iblk m c 0 t) := by
  unfold Dat.leavesExact; rw [show cfg0.idle 0 (cfg0.grid.coords t) = false from rfl, after0_0]
/-- What a step gives back of the upper bounds. -/
theorem leaves0_1 (c : Dev nD) (t : Fin cfg0.N) : (dats m 0 c).leavesExact 1 t = owns (c : Thread nD τ) (ms0_1 t) fullShare (iblk m c 1 t) := by
  unfold Dat.leavesExact; rw [show cfg0.idle 1 (cfg0.grid.coords t) = false from rfl, after0_1]
/-- What a step gives back of the input. -/
theorem leaves0_2 (c : Dev nD) (t : Fin cfg0.N) : (dats m 0 c).leavesExact 2 t = owns (c : Thread nD τ) (ms0_2 t) fullShare (iblk m c 2 t) := by
  unfold Dat.leavesExact; rw [show cfg0.idle 2 (cfg0.grid.coords t) = false from rfl, after0_2]
/-- What a step gives back of the column of ids. -/
theorem leaves0_3 (c : Dev nD) (t : Fin cfg0.N) : (dats m 0 c).leavesExact 3 t = owns (c : Thread nD τ) (ms0_3 t) fullShare (iblk m c 3 t) := by
  unfold Dat.leavesExact; rw [show cfg0.idle 3 (cfg0.grid.coords t) = false from rfl, after0_3]
/-- What a step gives back of the scale row. -/
theorem leaves0_4 (c : Dev nD) (t : Fin cfg0.N) : (dats m 0 c).leavesExact 4 t = owns (c : Thread nD τ) (ms0_4 t) fullShare (iblk m c 4 t) := by
  unfold Dat.leavesExact; rw [show cfg0.idle 4 (cfg0.grid.coords t) = false from rfl, after0_4]
/-- What a step gives back of the offset row. -/
theorem leaves0_5 (c : Dev nD) (t : Fin cfg0.N) : (dats m 0 c).leavesExact 5 t = owns (c : Thread nD τ) (ms0_5 t) fullShare (iblk m c 5 t) := by
  unfold Dat.leavesExact; rw [show cfg0.idle 5 (cfg0.grid.coords t) = false from rfl, after0_5]
/-- What a step gives back of the joint projection. -/
theorem leaves0_6 (c : Dev nD) (t : Fin cfg0.N) : (dats m 0 c).leavesExact 6 t = owns (c : Thread nD τ) (ms0_6 t) fullShare (iblk m c 6 t) := by
  unfold Dat.leavesExact; rw [show cfg0.idle 6 (cfg0.grid.coords t) = false from rfl, after0_6]
/-- What a step gives back of its bias. -/
theorem leaves0_7 (c : Dev nD) (t : Fin cfg0.N) : (dats m 0 c).leavesExact 7 t = owns (c : Thread nD τ) (ms0_7 t) fullShare (iblk m c 7 t) := by
  unfold Dat.leavesExact; rw [show cfg0.idle 7 (cfg0.grid.coords t) = false from rfl, after0_7]
/-- What a step gives back of the output projection. -/
theorem leaves0_8 (c : Dev nD) (t : Fin cfg0.N) : (dats m 0 c).leavesExact 8 t = owns (c : Thread nD τ) (ms0_8 t) fullShare (iblk m c 8 t) := by
  unfold Dat.leavesExact; rw [show cfg0.idle 8 (cfg0.grid.coords t) = false from rfl, after0_8]
/-- What a step gives back of the output bias. -/
theorem leaves0_9 (c : Dev nD) (t : Fin cfg0.N) : (dats m 0 c).leavesExact 9 t = owns (c : Thread nD τ) (ms0_9 t) fullShare (iblk m c 9 t) := by
  unfold Dat.leavesExact; rw [show cfg0.idle 9 (cfg0.grid.coords t) = false from rfl, after0_9]

/-- At a step that is not the last the output window is left alone. -/
theorem idle_out (c : Dev nD) (t : Fin cfg0.N) (h : t.val ≠ 7) :
    (dats m 0 c).leavesExact 10 t = iprop(∃ d, owns (c : Thread nD τ) (ms0_10 t) fullShare ((dats m 0 c).before 10 t d)) := by
  have ht : t.val < 8 := Nat.lt_of_lt_of_eq t.isLt N_0
  have hi : cfg0.idle 10 (cfg0.grid.coords t) = true := by
    have hc : ¬ k0_cond2 (grid0.coords t) = 1#1 := fun h' => h ((hcond1 t).mp h')
    show (!(k0_cond2 (grid0.coords t) == 1#1)) = true
    simp [hc]
  have hf : (cfg0.win 10).flush t = false := by
    rw [← Bool.not_eq_true]
    intro h'
    have := (flush0_10 t).mp h'
    omega
  exact Dat.leavesExact_idle _ _ _ hi hf

/-- At the last step the output window holds the result. -/
theorem live_out (c : Dev nD) (t : Fin cfg0.N) (h : t.val = 7) :
    (dats m 0 c).leavesExact 10 t = owns (c : Thread nD τ) (ms0_10 t) fullShare (outV0 m c) := by
  have hi : cfg0.idle 10 (cfg0.grid.coords t) = false := by
    have hc : k0_cond2 (grid0.coords t) = 1#1 := (hcond1 t).mpr h
    show (!(k0_cond2 (grid0.coords t) == 1#1)) = false
    simp [hc]
  unfold Dat.leavesExact; rw [hi, after0_10]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- The word naming a point's first key block. -/
theorem word_lo (c : Dev nD) (t : Fin cfg0.N) : (V m c main_call0_v40 : Vec F S8 .i32) (ix1 (grid0.coords t 0)) = BitVec.ofNat 32 (lobN (idsA m c) t.val) := by
  rw [← coords_zero t]
  exact (congrFun (V_lob m c) _).trans (lobW_apply _ _)

/-- The word naming the block after a point's last key block. -/
theorem word_hi (c : Dev nD) (t : Fin cfg0.N) : (V m c main_call0_v52 : Vec F S8 .i32) (ix1 (grid0.coords t 0)) = BitVec.ofNat 32 (hibN (idsA m c) t.val) := by
  rw [← coords_zero t]
  exact (congrFun (V_hib m c) _).trans (hibW_apply _ _)

end Cert.KernelIdeal.Hand
-- ==== Proof.FrBody.lean ====
module

public import proofs.«01_k».proof.Proof.FrDat

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F] [Named F]

local notation "𝕄" => MT nD τ sig Unit (Elt F) ℕ (UR sig nD τ) ℕ

attribute [local irreducible] st_k0_t1 stV Scf.trips

variable (m : (ℓ : Loc nD τ sig) → Buf (Elt F) ℓ) (ρ : Dev nD → PrngReg)

set_option maxHeartbeats 2000000 in
/-- The body at any point. -/
theorem sound_body (c : Dev nD) (t : Fin cfg0.N) :
    bodyPre m c t ⊢ wp frame (wpE (defs₀ (F := F)) Variants.none c none) Set.univ (bodyAt0 t) (fun _ => bodyPost m c t) := by
  have ht : t.val < 8 := Nat.lt_of_lt_of_eq t.isLt N_0
  have hput : ∀ d, agrees m c d t.val → agrees m c (VecWindow.put (s := S2048x512) d ![256 * (grid0.coords t 0).val, 0] S256x512.size
      (blkV (joint m c) (colI m c) (rowI m c) (outW m c) (lobN (idsA m c) t.val) (hibN (idsA m c) t.val) (grid0.coords t 0).val)) (t.val + 1) := by
    intro d hd; rw [coords_zero t]; exact agrees_put m c d t.val hd
  unfold bodyPre bodyPost bodyAt0
  simp only [before0_0, before0_1, before0_2, before0_3, before0_4, before0_5, before0_6, before0_7, before0_8, before0_9, leaves0_0, leaves0_1, leaves0_2, leaves0_3, leaves0_4, leaves0_5, leaves0_6, leaves0_7, leaves0_8, leaves0_9, iblk_0, iblk_1, iblk_2, iblk_3, iblk_4, iblk_5, iblk_6, iblk_7, iblk_8, iblk_9]
  rw [show (dats m 0 c).owesAt () t.succ = (dats m 0 c).owesAt () t.castSucc from rfl]
  rw [show (dats m 0 c).Φ t.succ = PhiS m c (t.val + 1) from rfl, PhiS_succ, PhiS_castSucc]
  by_cases hz : t.val = 0
  · have hc0 : cond0_0 (grid0.coords t) := (hcond0 t).mpr hz
    have hc1 : ¬cond0_1 (grid0.coords t) := fun h => by have := (hcond1 t).mp h; omega
    rw [idle_out m c t (by omega)]
    rw [PhiS_zero m c _ hz, PhiA0_eq]
    iintro ⟨⟨⟨⟨%s0, S0⟩, ⟨%s1, S1⟩, ⟨%s2, S2⟩, ⟨%s3, S3⟩, ⟨%s4, S4⟩, ⟨%d5, S5⟩, ⟨%s6, S6⟩, ⟨%s7, S7⟩⟩, Hg⟩, Ho, ⟨%d0, H0⟩, ⟨%d1, H1⟩, ⟨%d2, H2⟩, ⟨%d3, H3⟩, ⟨%d4, H4⟩, ⟨%e5, H5⟩, ⟨%d6, H6⟩, ⟨%d7, H7⟩, ⟨%d8, H8⟩, ⟨%d9, H9⟩, ⟨%d10, H10⟩⟩
    iapply (runA c (grid0.coords t) _ _ _ _ _ _ _ _ _ _ _ _ _ _ _ _ _ _ _ _ _ _ _ _ _ _ _ _ _ _ _ _ _ _ _ _ _ _ hc0 hc1 (V m c main_call0_v40) (V m c main_call0_v52) (V m c main_arg0) (V m c main_call0_v1) (V m c main_call0_v53) (V m c main_call0_v54) (V m c main_arg4) (V m c main_call0_v55) (V m c main_arg6) (V m c main_call0_v56) _ _ _ _ _ _ d5 _ _ (lobN (idsA m c) t.val) (hibN (idsA m c) t.val) (lobN_le_hibN _ _) (hibN_le _ _) (word_lo m c t) (word_hi m c t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iintro ⟨H0, H1, H2, H3, H4, H5, H6, H7, H8, H9, H10, S0, S1, S2, S3, S4, S5, S6, S7⟩
    isplitl [S0 S1 S2 S3 S4 S5 S6 S7 Hg]
    · isplitl [S0 S1 S2 S3 S4 S5 S6 S7]
      · isplitl [S0]
        · iexists _; iexact S0
        isplitl [S1]
        · iexact S1
        isplitl [S2]
        · iexact S2
        isplitl [S3]
        · iexact S3
        isplitl [S4]
        · iexact S4
        isplitl [S5]
        · iexists _; isplitr; swap; · iexact S5
          ipureintro; exact hput d5 (agrees_none m c d5 _ hz)
        isplitl [S6]
        · iexists _; iexact S6
        iexact S7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexists _; iexact H10
  · have hc0 : ¬cond0_0 (grid0.coords t) := fun h => hz ((hcond0 t).mp h)
    by_cases hl : t.val = 7
    · have hc1 : cond0_1 (grid0.coords t) := (hcond1 t).mpr hl
      have hlast : ∀ d, agrees m c d t.val → k0_pay1 (perm m c) (VecWindow.put (s := S2048x512) d ![256 * (grid0.coords t 0).val, 0] S256x512.size
          (blkV (joint m c) (colI m c) (rowI m c) (outW m c) (lobN (idsA m c) t.val) (hibN (idsA m c) t.val) (grid0.coords t 0).val)) (V m c main_arg0) (V m c main_call0_v56) = outV0 m c := by
        intro d hd; exact last_eq m c _ _ hl (hput d hd) _ _ _
      rw [live_out m c t hl]
      rw [PhiS_pos m c _ hz]
      iintro ⟨⟨⟨⟨%s0, S0⟩, S1, S2, S3, S4, ⟨%d5, %hd5, S5⟩, ⟨%s6, S6⟩, S7⟩, Hg⟩, Ho, ⟨%d0, H0⟩, ⟨%d1, H1⟩, ⟨%d2, H2⟩, ⟨%d3, H3⟩, ⟨%d4, H4⟩, ⟨%e5, H5⟩, ⟨%d6, H6⟩, ⟨%d7, H7⟩, ⟨%d8, H8⟩, ⟨%d9, H9⟩, ⟨%d10, H10⟩⟩
      iapply (runC_v c (grid0.coords t) _ _ _ _ _ _ _ _ _ _ _ _ _ _ _ _ _ _ _ _ _ _ _ _ _ _ _ _ _ _ _ _ _ _ _ _ _ _ hc0 hc1 (V m c main_call0_v40) (V m c main_call0_v52) (V m c main_arg0) (V m c main_call0_v1) (V m c main_call0_v53) (V m c main_call0_v54) (V m c main_arg4) (V m c main_call0_v55) (V m c main_arg6) (V m c main_call0_v56) _ _ (joint m c) (perm m c) (colI m c) (rowI m c) d5 _ (outW m c) (lobN (idsA m c) t.val) (hibN (idsA m c) t.val) (lobN_le_hibN _ _) (hibN_le _ _) (word_lo m c t) (word_hi m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iintro ⟨H0, H1, H2, H3, H4, H5, H6, H7, H8, H9, H10, S0, S1, S2, S3, S4, S5, S6, S7⟩
      isplitl [S0 S1 S2 S3 S4 S5 S6 S7 Hg]
      · isplitl [S0 S1 S2 S3 S4 S5 S6 S7]
        · isplitl [S0]
          · iexists _; iexact S0
          isplitl [S1]
          · iexact S1
          isplitl [S2]
          · iexact S2
          isplitl [S3]
          · iexact S3
          isplitl [S4]
          · iexact S4
          isplitl [S5]
          · iexists _; isplitr; swap; · iexact S5
            ipureintro; exact hput d5 hd5
          isplitl [S6]
          · iexists _; iexact S6
          iexact S7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      rw [← hlast d5 hd5]; iexact H10
    · have hc1 : ¬cond0_1 (grid0.coords t) := fun h => hl ((hcond1 t).mp h)
      rw [idle_out m c t hl]
      rw [PhiS_pos m c _ hz]
      iintro ⟨⟨⟨⟨%s0, S0⟩, S1, S2, S3, S4, ⟨%d5, %hd5, S5⟩, ⟨%s6, S6⟩, S7⟩, Hg⟩, Ho, ⟨%d0, H0⟩, ⟨%d1, H1⟩, ⟨%d2, H2⟩, ⟨%d3, H3⟩, ⟨%d4, H4⟩, ⟨%e5, H5⟩, ⟨%d6, H6⟩, ⟨%d7, H7⟩, ⟨%d8, H8⟩, ⟨%d9, H9⟩, ⟨%d10, H10⟩⟩
      iapply (runB_v c (grid0.coords t) _ _ _ _ _ _ _ _ _ _ _ _ _ _ _ _ _ _ _ _ _ _ _ _ _ _ _ _ _ _ _ _ _ _ _ _ _ _ hc0 hc1 (V m c main_call0_v40) (V m c main_call0_v52) (V m c main_arg0) (V m c main_call0_v1) (V m c main_call0_v53) (V m c main_call0_v54) (V m c main_arg4) (V m c main_call0_v55) (V m c main_arg6) (V m c main_call0_v56) _ _ (joint m c) (perm m c) (colI m c) (rowI m c) d5 _ (outW m c) (lobN (idsA m c) t.val) (hibN (idsA m c) t.val) (lobN_le_hibN _ _) (hibN_le _ _) (word_lo m c t) (word_hi m c t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iintro ⟨H0, H1, H2, H3, H4, H5, H6, H7, H8, H9, H10, S0, S1, S2, S3, S4, S5, S6, S7⟩
      isplitl [S0 S1 S2 S3 S4 S5 S6 S7 Hg]
      · isplitl [S0 S1 S2 S3 S4 S5 S6 S7]
        · isplitl [S0]
          · iexists _; iexact S0
          isplitl [S1]
          · iexact S1
          isplitl [S2]
          · iexact S2
          isplitl [S3]
          · iexact S3
          isplitl [S4]
          · iexact S4
          isplitl [S5]
          · iexists _; isplitr; swap; · iexact S5
            ipureintro; exact hput d5 hd5
          isplitl [S6]
          · iexists _; iexact S6
          iexact S7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexists _; iexact H10

end Cert.KernelIdeal.Hand
-- ==== Proof.Fr.lean ====
module

public import proofs.«01_k».proof.Proof.FrBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx

variable {F : FTy → Type} [FloatOps F] [Named F]

local notation "𝕄" => MT nD τ sig Unit (Elt F) ℕ (UR sig nD τ) ℕ

attribute [local irreducible] st_k0_t1 stV Scf.trips

variable (m : (ℓ : Loc nD τ sig) → Buf (Elt F) ℓ) (ρ : Dev nD → PrngReg)

/-- The body that a grid step runs. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first step the invariant is ownership of the scratch buffers. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- The invariant after the last point gives the scratch buffers back. -/
theorem hout (c : Dev nD) : (dats m 0 c).Φ (Fin.last cfg0.N) ⊢ Pipeline.ΦA spec0 c := by
  rw [show (dats m 0 c).Φ (Fin.last cfg0.N) = PhiS m c cfg0.N from rfl, PhiS_pos m c _ (by have : cfg0.N = 8 := N_0; omega), PhiA0_eq]
  iintro ⟨⟨S0, S1, S2, S3, S4, ⟨%d5, %hd5, S5⟩, S6, S7⟩, Hg⟩
  isplitl [S0 S1 S2 S3 S4 S5 S6 S7]
  · isplitl [S0]
    · iexact S0
    isplitl [S1]
    · iexists _; iexact S1
    isplitl [S2]
    · iexists _; iexact S2
    isplitl [S3]
    · iexists _; iexact S3
    isplitl [S4]
    · iexists _; iexact S4
    isplitl [S5]
    · iexists _; iexact S5
    isplitl [S6]
    · iexact S6
    iexists _; iexact S7
  iexact Hg

set_option backward.isDefEq.respectTransparency.types false in
/-- The launch: every run ends with the arrays at what the proof data names, and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end as they were. -/
theorem unchanged : θ_run defs (onTc (τ := τ) (main (F := F))) ⟨m, fun _ => 0, ρ⟩ (fun r => ∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) :=
  frame_of m ρ (dats m) (A_eq m) ((θ_run defs _ _).mono (fun _ h => h.1) (run_main_quiescent m ρ))

/-- The frame: the arguments end as they were and every counter at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

/-- The output array ends at the result. -/
theorem arr_out (c : Dev nD) : (dats m 0 c).arrAt 10 cfg0.N = (outV0 m c : Vec F S2048x512 .f32) := by
  have hr : ∀ (t : Fin cfg0.N) (y : S2048x512.Idx), ((cfg0.win 10).rect t).emb y = y := fun t y =>
    funext fun a => Fin.ext (Pipeline.Window.rect_emb_val_of_index_zero win0_10 t a (by match a with | ⟨0, _⟩ => rfl | ⟨1, _⟩ => rfl) y)
  refine Dat.arrAt_eq_of_cover (dats m 0 c) 10 (outV0 m c) (fun t ht => ?_) (fun y => ?_)
  · show (dats m 0 c).after 10 t = _
    rw [after0_10]
    generalize outV0 m c = X
    funext y
    exact (congrArg X (hr t y)).symm
  · have h7 : 7 < cfg0.N := by rw [show cfg0.N = 8 from N_0]; decide
    refine ⟨⟨7, h7⟩, (flush0_10 _).mpr rfl, ?_⟩
    exact (congrArg (· ∈ ((cfg0.win 10).blk ⟨7, h7⟩).view.set) (hr ⟨7, h7⟩ y)).mp (View.emb_mem_set _ y)

/-- The run: the result named, the arguments unchanged. -/
theorem run_out : θ_run defs (onTc (τ := τ) (main (F := F))) ⟨m, fun _ => 0, ρ⟩ (fun r => ∀ c : Dev nD,
      r.2.mem ((c.tc : Thread nD τ).loc main_v0) = (outV0 m c : Vec F S2048x512 .f32) ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7)) :=
  (θ_run defs _ _).mono (fun _ h c => ⟨((h.2.1 c).1 10).trans (arr_out m c), h.1 c⟩) (θ_run_and (unchanged m ρ) (run_main_quiescent m ρ))

end Cert.KernelIdeal.Hand
-- ==== Proof.K.HostRead.lean ====
module

public import proofs.«01_k».proof.Proof.K.HostWords
public import Idealize.ShloMosaic.Lib.StableHlo.RunRead
public import Idealize.ShloMosaic.Lib.Claim

@[expose] public section

set_option maxRecDepth 16384

noncomputable section

namespace Cert.Kernel.Hand

open Idealize.ShloMosaic Idealize.ShloMosaic.TcCoe Idealize.ShloMosaic.Tactic Idealize.ShloMosaic.Routing
open Cert.Kernel.Gen

variable {F : FTy → Type} [FloatOps F]

set_option maxHeartbeats 2000000 in
/-- The buffer of first key blocks, at the kernel's entry. -/
theorem V_lob (m : (ℓ : Loc nD τ sig) → Buf (Elt F) ℓ) (c : Dev nD) :
    Gen.V m c main_call0_v40 = lobW (m ((c.tc : Thread nD τ).loc main_arg1)) := by
  unfold_abbrev_sides
  after_reads_simp
  simp -implicitDefEqProofs only [StableHlo.TRef.toBuf, StableHlo.TRef.ofBuf, cast_eq]
  simp only [lobW, hibW, lastW, blkW, topW, atW, posW, rowW, offW, endW, cntW, pyDiv, id]

set_option maxHeartbeats 2000000 in
/-- The buffer of blocks after the last key block, at the kernel's entry. -/
theorem V_hib (m : (ℓ : Loc nD τ sig) → Buf (Elt F) ℓ) (c : Dev nD) :
    Gen.V m c main_call0_v52 = hibW (m ((c.tc : Thread nD τ).loc main_arg1)) := by
  unfold_abbrev_sides
  after_reads_simp
  simp -implicitDefEqProofs only [StableHlo.TRef.toBuf, StableHlo.TRef.ofBuf, cast_eq]
  simp only [lobW, hibW, lastW, blkW, topW, atW, posW, rowW, offW, endW, cntW, pyDiv, id]

end Cert.Kernel.Hand
-- ==== Proof.Rank.lean ====
module

public import proofs.«01_k».proof.Proof.HostWords

@[expose] public section

noncomputable section

namespace Cert.KernelIdeal.Hand

open Idealize.ShloMosaic Idealize.ShloMosaic.ValueIdx
open Cert.KernelIdeal.Gen

section Rank
variable (ids : IVec S2048 32)

/-- The group of token `i`. -/
def grp (i : Fin 2048) : ℕ := (ids (ix1 i)).toNat

/-- The number of earlier tokens of the same group. -/
def preN (i : Fin 2048) : ℕ := (Finset.univ.filter fun q : Fin 2048 => q < i ∧ grp ids q = grp ids i).card

/-- The sorted position of token `i`. -/
def rankN (i : Fin 2048) : ℕ := offN ids (grp ids i) + preN ids i

/-- A count is the size of a set of tokens. -/
theorem cntN_eq (k : ℕ) (hk : k < 16) : cntN ids k = (Finset.univ.filter fun q : Fin 2048 => grp ids q = k).card := by
  unfold cntN grp
  refine congrArg Finset.card (Finset.filter_congr fun q _ => ⟨fun h => ?_, fun h => ?_⟩)
  · rw [h, BitVec.toNat_ofNat]; omega
  · apply BitVec.eq_of_toNat_eq; rw [h, BitVec.toNat_ofNat]; omega

variable (hr : ∀ i, grp ids i < 16)
include hr

/-- A token has fewer predecessors in its group than the group has members. -/
theorem preN_lt (i : Fin 2048) : preN ids i < cntN ids (grp ids i) := by
  rw [cntN_eq ids _ (hr i)]
  refine Finset.card_lt_card ((Finset.ssubset_iff_of_subset fun q hq => ?_).mpr ⟨i, ?_, ?_⟩)
  · simp only [Finset.mem_filter, Finset.mem_univ, true_and] at hq ⊢; exact hq.2
  · simp
  · simp

/-- A later token of a group has more predecessors. -/
theorem preN_lt_of (i j : Fin 2048) (hg : grp ids i = grp ids j) (h : i < j) : preN ids i < preN ids j := by
  refine Finset.card_lt_card ((Finset.ssubset_iff_of_subset fun q hq => ?_).mpr ⟨i, ?_, ?_⟩)
  · simp only [Finset.mem_filter, Finset.mem_univ, true_and] at hq ⊢
    exact ⟨lt_trans hq.1 h, hq.2.trans hg⟩
  · simp [h, hg]
  · simp

/-- A rank is not before its group's start. -/
theorem off_le_rank (i : Fin 2048) : offN ids (grp ids i) ≤ rankN ids i := Nat.le_add_right _ _

/-- A rank is before its group's end. -/
theorem rank_lt_end (i : Fin 2048) : rankN ids i < endN ids (grp ids i) := by
  have := preN_lt ids hr i
  rw [endN_eq]; unfold rankN; omega

/-- A rank is a row. -/
theorem rank_lt (i : Fin 2048) : rankN ids i < 2048 :=
  lt_of_lt_of_le (rank_lt_end ids hr i) (endN_le ids _ (hr i))

omit hr in
/-- A group ends at or before a row of group `k` exactly when it comes before `k`. -/
theorem end_le_iff (k r : ℕ) (h1 : offN ids k ≤ r) (h2 : r < endN ids k) (e : ℕ) : endN ids e ≤ r ↔ e < k := by
  constructor
  · intro h
    by_contra hc
    have : endN ids k ≤ endN ids e := offN_mono ids (show k + 1 ≤ e + 1 by omega)
    omega
  · intro h
    have : endN ids e ≤ offN ids k := offN_mono ids (show e + 1 ≤ k by omega)
    omega

/-- The group of a sorted row. -/
theorem posN_rank (i : Fin 2048) : posN ids (rankN ids i) = grp ids i := by
  unfold posN
  simp only [end_le_iff ids _ _ (off_le_rank ids hr i) (rank_lt_end ids hr i)]
  have hk := hr i
  generalize grp ids i = k at hk ⊢
  have : (Finset.univ.filter fun e : Fin 16 => e.val < k) = Finset.univ.map ⟨fun x : Fin k => (⟨x.val, by omega⟩ : Fin 16), fun a b h => Fin.ext (by simpa using congrArg Fin.val h)⟩ := by
    ext e
    simp only [Finset.mem_filter, Finset.mem_univ, true_and, Finset.mem_map, Function.Embedding.coeFn_mk]
    exact ⟨fun h => ⟨⟨e.val, h⟩, rfl⟩, fun ⟨x, hx⟩ => by rw [← hx]; exact x.isLt⟩
  rw [this, Finset.card_map, Finset.card_univ, Fintype.card_fin]

/-- Ranks are distinct. -/
theorem rank_inj {i j : Fin 2048} (h : rankN ids i = rankN ids j) : i = j := by
  have hg : grp ids i = grp ids j := by rw [← posN_rank ids hr i, ← posN_rank ids hr j, h]
  have hp : preN ids i = preN ids j := by unfold rankN at h; rw [hg] at h; omega
  rcases lt_trichotomy i j with h1 | h1 | h1
  · have := preN_lt_of ids hr i j hg h1; omega
  · exact h1
  · have := preN_lt_of ids hr j i hg.symm h1; omega

/-- The sorting as a permutation of the rows. -/
def rankE : Fin 2048 ≃ Fin 2048 :=
  Equiv.ofBijective (fun i => (⟨rankN ids i, rank_lt ids hr i⟩ : Fin 2048))
    (Finite.injective_iff_bijective.mp fun _ _ h => rank_inj ids hr (congrArg Fin.val h))

/-- The permutation sends a token to its rank. -/
theorem rankE_val (i : Fin 2048) : (rankE ids hr i).val = rankN ids i := rfl

/-- The row at a token's rank has the token's group. -/
theorem posN_rankE (i : Fin 2048) : posN ids (rankE ids hr i).val = grp ids i := posN_rank ids hr i

/-- A row has the group of the token that lies there. -/
theorem posN_symm (r : Fin 2048) : posN ids r.val = grp ids ((rankE ids hr).symm r) := by
  conv_lhs => rw [← (rankE ids hr).apply_symm_apply r]
  exact posN_rankE ids hr _

/-- The rows of a row's group lie in the key blocks the two words name. -/
theorem cover (r r' : Fin 2048) (h : posN ids r.val = posN ids r'.val) :
    lobN ids (r.val / 256) ≤ r'.val / 256 ∧ r'.val / 256 < hibN ids (r.val / 256) := by
  obtain ⟨i, rfl⟩ := (rankE ids hr).surjective r
  obtain ⟨j, rfl⟩ := (rankE ids hr).surjective r'
  rw [posN_rankE, posN_rankE] at h
  have h1 := off_le_rank ids hr j
  have h2 := rank_lt_end ids hr j
  have hk := hr i
  have p0 := posN_mono ids (show 256 * (rankN ids i / 256) ≤ rankN ids i by omega)
  have p1 := posN_mono ids (show rankN ids i ≤ 256 * (rankN ids i / 256) + 255 by omega)
  rw [posN_rank ids hr] at p0 p1
  rw [← h] at h1 h2
  simp only [rankE_val]
  unfold lobN hibN
  have o1 := offN_mono ids (show min (posN ids (256 * (rankN ids i / 256))) 15 ≤ grp ids i by omega)
  have o2 : endN ids (grp ids i) ≤ endN ids (min (posN ids (256 * (rankN ids i / 256) + 255)) 15) := offN_mono ids (show grp ids i + 1 ≤ _ + 1 by omega)
  omega

end Rank

end Cert.KernelIdeal.Hand
-- ==== Proof.PreDec.lean ====
module

public import proofs.«01_k».proof.Pre_tame
public import proofs.«01_k».proof.Proof.Rank
public import Idealize.ShloMosaic.Lib.ReduceAll
public import Idealize.ShloMosaic.Lib.Pointwise

@[expose] public section

set_option maxRecDepth 16384

noncomputable section

namespace Cert.KernelIdeal.Hand

open Idealize.ShloMosaic

/-- The side conditions of the precondition. -/
theorem preFacts : Cert.Pre_tame.Facts := by constructor <;> decide +kernel

/-- A value whose magnitude compares below infinity is a real number. -/
theorem fin_of {s : Shape} (x : FVec Ideal s .f32) (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) : ∃ r : ℝ, x i = (r : EReal) := by
  have h' : Ideal.cmp .olt (max (x i) (-(x i))) (Ideal.ofBits .f32 0x7F800000#32) = 1#1 := h
  have htop : Ideal.ofBits .f32 0x7F800000#32 = ⊤ := by simp [Ideal.ofBits, Ideal.ieee]
  rw [htop] at h'
  generalize x i = v at h'
  unfold Ideal.cmp at h'
  induction v using EReal.rec with
  | bot => simp at h'
  | top => simp at h'
  | coe r => exact ⟨r, rfl⟩

/-- A conjunction that holds has both parts. -/
theorem andi_one {a b : IVec (⟨0, ![]⟩ : Shape) 1} {j} (h : andi a b j = 1#1) : a j = 1#1 ∧ b j = 1#1 := IntOp.andi_eq_one.mp h

/-- What the precondition says: every id below sixteen; the input, the scale, the offset, the joint projection and its bias finite. -/
theorem tame_dec [Cert.Pre_tame.Facts] (x : FVec Ideal ⟨2, ![2048, 512]⟩ .f32) (ids : IVec ⟨1, ![2048]⟩ 32) (ls lb : FVec Ideal ⟨1, ![512]⟩ .f32) (W : FVec Ideal ⟨2, ![1536, 512]⟩ .f32)
    (b : FVec Ideal ⟨1, ![1536]⟩ .f32) (Wp : FVec Ideal ⟨2, ![512, 512]⟩ .f32) (bp : FVec Ideal ⟨1, ![512]⟩ .f32)
    (h : Cert.Pre_tame.fn (F := Ideal) x ids ls lb W b Wp bp = fun _ => 1#1) :
    (∀ i, grp ids i < 16) ∧ (∀ j, ∃ r : ℝ, x j = (r : EReal)) ∧ (∀ j, ∃ r : ℝ, ls j = (r : EReal)) ∧ (∀ j, ∃ r : ℝ, lb j = (r : EReal))
      ∧ (∀ j, ∃ r : ℝ, W j = (r : EReal)) ∧ (∀ j, ∃ r : ℝ, b j = (r : EReal)) := by
  have hs : Subsingleton (Shape.Idx (⟨0, ![]⟩ : Shape)) := ⟨fun a b => funext fun k => k.elim0⟩
  have h0 := congrFun h ix0
  unfold Cert.Pre_tame.fn Cert.Pre_tame.fn_part1 at h0
  obtain ⟨h29, h28⟩ := andi_one h0
  obtain ⟨h5, h19⟩ := andi_one h29
  obtain ⟨h14, h18⟩ := andi_one h19
  obtain ⟨h9, h13⟩ := andi_one h14
  obtain ⟨h23, h27⟩ := andi_one h28
  refine ⟨fun i => ?_, fun j => ?_, fun j => ?_, fun j => ?_, fun j => ?_, fun j => ?_⟩
  · have h' := Host.reduce_andi_all _ _ _ _ _ h5 (ix1 i)
    have h'' : IntOp.andi (IntOp.cmpi .sge (ids (ix1 i)) 0#32) (IntOp.cmpi .slt (ids (ix1 i)) 16#32) = 1#1 := h'
    obtain ⟨h1, h2⟩ := IntOp.andi_eq_one.mp h''
    unfold grp
    rw [show ids (ValueIdx.ix1 i) = ids (ix1 i) from rfl]
    generalize ids (ix1 i) = v at h1 h2 ⊢
    unfold IntOp.cmpi at h1 h2
    simp only [WordArith.ofBool_eq_one_iff] at h1 h2
    simp only [BitVec.sle_iff_toInt_le, BitVec.slt_iff_toInt_lt, show (0#32).toInt = 0 by decide, show (16#32).toInt = 16 by decide] at h1 h2
    have hc := BitVec.toInt_eq_toNat_cond v
    have hl := v.isLt
    split at hc <;> omega
  · exact fin_of _ _ _ (Host.reduce_andi_all _ _ _ _ _ h9 j)
  · exact fin_of _ _ _ (Host.reduce_andi_all _ _ _ _ _ h13 j)
  · exact fin_of _ _ _ (Host.reduce_andi_all _ _ _ _ _ h18 j)
  · exact fin_of _ _ _ (Host.reduce_andi_all _ _ _ _ _ h23 j)
  · exact fin_of _ _ _ (Host.reduce_andi_all _ _ _ _ _ h27 j)

end Cert.KernelIdeal.Hand
-- ==== Proof.TripVal.lean ====
/- One trip of the block loop, the loop, and the block written, read at an index at the ideal instance. -/
module
public import proofs.«01_k».proof.Proof.Vals
public import proofs.«01_k».proof.Proof.Rank
public import Idealize.ShloMosaic.Lib.Pointwise
@[expose] public section
set_option maxRecDepth 16384
noncomputable section
namespace Cert.KernelIdeal.Hand
open Idealize.ShloMosaic Idealize.ShloMosaic.TcCoe
open Cert.KernelIdeal.Gen

/-- The mask constant is minus infinity. -/
theorem mask_bot : (Named.named κ "mask" 0xF2177617#32 : Ideal .f32) = ⊥ := IdealRules.named_const.ideal_named_scalar _ _ _ _ rfl

/-- The scale of the scores. -/
def scl : EReal := Ideal.ofBits FTy.f32 0x3E000000#32
/-- The column of entry `d` of head `h`'s keys. -/
def kcol (h : Fin 8) (d : Fin 64) : Fin 1536 := ⟨(512 + 64 * h.val) + d.val, by omega⟩
/-- The column of entry `d` of head `h`'s values. -/
def vcol (h : Fin 8) (d : Fin 64) : Fin 1536 := ⟨(1024 + 64 * h.val) + d.val, by omega⟩

/-- A weight: the exponential of the masked score. -/
def wt (q : Vec Ideal S256x64 .bf16) (sc : Vec Ideal S256x1 .f32) (kv : Vec Ideal S256x1536 .bf16) (sr : Vec Ideal S1x1x256 .f32) (h : Fin 8) (i j : Fin 256) : EReal :=
  Ideal.exp (if sc (ix2 i 0) = sr (ix3 0 0 j) then (∑ d, q (ix2 i d) * kv (ix2 j (kcol h d))) * scl else ⊥)

/-- The carried row sum of head `h`. -/
def lC (s : Carry Ideal) (h : Fin 8) (i : Fin 256) : EReal :=
  match h with
  | ⟨0, _⟩ => s.1 (ix2 i 0)
  | ⟨1, _⟩ => s.2.1 (ix2 i 0)
  | ⟨2, _⟩ => s.2.2.1 (ix2 i 0)
  | ⟨3, _⟩ => s.2.2.2.1 (ix2 i 0)
  | ⟨4, _⟩ => s.2.2.2.2.1 (ix2 i 0)
  | ⟨5, _⟩ => s.2.2.2.2.2.1 (ix2 i 0)
  | ⟨6, _⟩ => s.2.2.2.2.2.2.1 (ix2 i 0)
  | ⟨7, _⟩ => s.2.2.2.2.2.2.2.1 (ix2 i 0)

/-- The carried weighted sum of head `h`. -/
def aC (s : Carry Ideal) (h : Fin 8) (i : Fin 256) (d : Fin 64) : EReal :=
  match h with
  | ⟨0, _⟩ => s.2.2.2.2.2.2.2.2.1 (ix2 i d)
  | ⟨1, _⟩ => s.2.2.2.2.2.2.2.2.2.1 (ix2 i d)
  | ⟨2, _⟩ => s.2.2.2.2.2.2.2.2.2.2.1 (ix2 i d)
  | ⟨3, _⟩ => s.2.2.2.2.2.2.2.2.2.2.2.1 (ix2 i d)
  | ⟨4, _⟩ => s.2.2.2.2.2.2.2.2.2.2.2.2.1 (ix2 i d)
  | ⟨5, _⟩ => s.2.2.2.2.2.2.2.2.2.2.2.2.2.1 (ix2 i d)
  | ⟨6, _⟩ => s.2.2.2.2.2.2.2.2.2.2.2.2.2.2.1 (ix2 i d)
  | ⟨7, _⟩ => s.2.2.2.2.2.2.2.2.2.2.2.2.2.2.2 (ix2 i d)

variable (q : Fin 8 → Vec Ideal S256x64 .bf16) (sc : Vec Ideal S256x1 .f32) (kv : Vec Ideal S256x1536 .bf16) (sr : Vec Ideal S1x1x256 .f32) (s : Carry Ideal)

/-- The row sums after a trip. -/
theorem l_trip (h : Fin 8) (i : Fin 256) : lC (tripV q sc kv sr s) h i = lC s h i + ∑ j, wt (q h) sc kv sr h i j := by
  refine match h with
  | ⟨0, _⟩ => ?_
  | ⟨1, _⟩ => ?_
  | ⟨2, _⟩ => ?_
  | ⟨3, _⟩ => ?_
  | ⟨4, _⟩ => ?_
  | ⟨5, _⟩ => ?_
  | ⟨6, _⟩ => ?_
  | ⟨7, _⟩ => ?_
  all_goals
    unfold lC tripV wt
    dsimp only
    pointwise [k0_pay30, k0_pay31, k0_pay32, k0_pay34, k0_pay35, k0_pay38, k0_pay39, k0_pay40, k0_pay42, k0_pay43, k0_pay45, k0_pay46, k0_pay49, k0_pay88, k0_pay90, k0_pay91, k0_pay93, k0_pay94, mask_bot]
    rfl

/-- The weighted sums after a trip. -/
theorem a_trip (h : Fin 8) (i : Fin 256) (d : Fin 64) :
    aC (tripV q sc kv sr s) h i d = aC s h i d + ∑ j, wt (q h) sc kv sr h i j * kv (ix2 j (vcol h d)) := by
  refine match h with
  | ⟨0, _⟩ => ?_
  | ⟨1, _⟩ => ?_
  | ⟨2, _⟩ => ?_
  | ⟨3, _⟩ => ?_
  | ⟨4, _⟩ => ?_
  | ⟨5, _⟩ => ?_
  | ⟨6, _⟩ => ?_
  | ⟨7, _⟩ => ?_
  all_goals
    unfold aC tripV wt
    dsimp only
    pointwise [k0_pay30, k0_pay31, k0_pay33, k0_pay34, k0_pay36, k0_pay37, k0_pay38, k0_pay39, k0_pay40, k0_pay41, k0_pay42, k0_pay44, k0_pay45, k0_pay47, k0_pay48, k0_pay49, k0_pay89, k0_pay90, k0_pay92, k0_pay93, k0_pay95, mask_bot]
    rfl

/-- The row sums start at zero. -/
theorem l_init (h : Fin 8) (i : Fin 256) : lC initV h i = 0 := by
  refine match h with
  | ⟨0, _⟩ => ?_
  | ⟨1, _⟩ => ?_
  | ⟨2, _⟩ => ?_
  | ⟨3, _⟩ => ?_
  | ⟨4, _⟩ => ?_
  | ⟨5, _⟩ => ?_
  | ⟨6, _⟩ => ?_
  | ⟨7, _⟩ => ?_
  all_goals
    unfold lC initV
    dsimp only
    pointwise

/-- The weighted sums start at zero. -/
theorem a_init (h : Fin 8) (i : Fin 256) (d : Fin 64) : aC initV h i d = 0 := by
  refine match h with
  | ⟨0, _⟩ => ?_
  | ⟨1, _⟩ => ?_
  | ⟨2, _⟩ => ?_
  | ⟨3, _⟩ => ?_
  | ⟨4, _⟩ => ?_
  | ⟨5, _⟩ => ?_
  | ⟨6, _⟩ => ?_
  | ⟨7, _⟩ => ?_
  all_goals
    unfold aC initV
    dsimp only
    pointwise [k0_pay84, k0_pay85, k0_pay86, k0_pay87]

/-- The eight heads' quotients side by side, read at head `h` and entry `d`. -/
theorem out_apply (w : Vec Ideal S512x512 .bf16) (i : Fin 256) (k : Fin 512) :
    outV s w (ix2 i k) = ∑ x : Fin 512, Ideal.div (aC s ⟨x.val / 64, by omega⟩ i ⟨x.val % 64, by omega⟩) (lC s ⟨x.val / 64, by omega⟩ i) * w (ix2 k x) := by
  pointwise [outV, k0_pay105, k0_pay104]
  refine Finset.sum_congr rfl fun x _ => congrArg (· * w (ix2 k x)) ?_
  obtain ⟨h, d, hx⟩ : ∃ (h : Fin 8) (d : Fin 64), x.val = 64 * h.val + d.val :=
    ⟨⟨x.val / 64, by omega⟩, ⟨x.val % 64, by omega⟩, (Nat.div_add_mod _ _).symm⟩
  have e1 : (⟨x.val / 64, by omega⟩ : Fin 8) = h := Fin.ext (by simp only []; omega)
  have e2 : (⟨x.val % 64, by omega⟩ : Fin 64) = d := Fin.ext (by simp only []; omega)
  rw [e1, e2]
  clear e1 e2
  have hd := d.isLt
  revert hx
  refine match h with
  | ⟨0, _⟩ => ?_
  | ⟨1, _⟩ => ?_
  | ⟨2, _⟩ => ?_
  | ⟨3, _⟩ => ?_
  | ⟨4, _⟩ => ?_
  | ⟨5, _⟩ => ?_
  | ⟨6, _⟩ => ?_
  | ⟨7, _⟩ => ?_
  all_goals
    intro hx
    dsimp only at hx
    repeat rw [dif_neg (by omega)]
    try rw [dif_pos (by omega)]
    unfold aC lC
    dsimp only
    congr 1
    refine congrArg _ (congrArg (ix2 i) (Fin.ext ?_))
    dsimp only
    omega
end Cert.KernelIdeal.Hand
-- ==== Proof.NVal.lean ====
/- The counting part of the prologue at the ideal instance: each intermediate is a natural number. -/
module
public import proofs.«01_k».proof.Proof.Vals
public import proofs.«01_k».proof.Proof.Rank
public import Idealize.ShloMosaic.Lib.Pointwise
@[expose] public section
set_option maxRecDepth 16384
noncomputable section
namespace Cert.KernelIdeal.Hand
open Idealize.ShloMosaic Idealize.ShloMosaic.TcCoe
open Cert.KernelIdeal.Gen

/-- A natural number as an ideal value. -/
def nE (n : ℕ) : EReal := ((n : ℝ) : EReal)
/-- Naturals add. -/
theorem nE_add (a b : ℕ) : nE a + nE b = nE (a + b) := by simp [nE]
/-- Naturals subtract, the smaller from the larger. -/
theorem nE_sub (a b : ℕ) (h : b ≤ a) : nE a - nE b = nE (a - b) := by
  simp only [nE, Nat.cast_sub h]; exact (EReal.coe_sub _ _).symm
/-- Naturals multiply. -/
theorem nE_mul (a b : ℕ) : nE a * nE b = nE (a * b) := by simp [nE]
/-- Zero. -/
theorem nE_zero : nE 0 = 0 := by simp [nE]
/-- One. -/
theorem nE_one : nE 1 = 1 := by simp [nE]
/-- An indicator is a natural number. -/
theorem nE_ite (p : Prop) [Decidable p] : (if p then (1:EReal) else 0) = nE (if p then 1 else 0) := by split <;> simp [nE]
/-- A sum of natural numbers. -/
theorem nE_sum {ι : Type} (s : Finset ι) (f : ι → ℕ) : ∑ i ∈ s, nE (f i) = nE (∑ i ∈ s, f i) := by
  classical
  induction s using Finset.induction_on with
  | empty => simp [nE]
  | insert a s ha ih => rw [Finset.sum_insert ha, Finset.sum_insert ha, ih, nE_add]
/-- Order between naturals. -/
theorem nE_le (a b : ℕ) : nE a ≤ nE b ↔ a ≤ b := by simp [nE]
/-- Strict order between naturals. -/
theorem nE_lt (a b : ℕ) : nE a < nE b ↔ a < b := by simp [nE]
/-- Equality between naturals. -/
theorem nE_eq (a b : ℕ) : nE a = nE b ↔ a = b := by simp [nE]
/-- A small word read as an integer. -/
theorem si (n : ℕ) (h : n < 2 ^ 31) : (FloatOps.sitofp FTy.f32 (BitVec.ofNat 32 n) : Ideal .f32) = nE n := by
  have : (BitVec.ofNat 32 n).toInt = n := by
    rw [BitVec.toInt_eq_toNat_cond]; simp only [BitVec.toNat_ofNat]; split <;> omega
  show (((BitVec.ofNat 32 n).toInt : ℝ) : EReal) = _
  rw [this]; simp [nE]
/-- An index read as an integer. -/
theorem si' {n : ℕ} (k : Fin n) (h : n ≤ 2 ^ 31) : (FloatOps.sitofp FTy.f32 (BitVec.ofNat 32 k.val) : Ideal .f32) = nE k := si _ (by omega)

variable {ids : IVec S2048 32} (hr : ∀ i, grp ids i < 16) (x : Vec Ideal S2048x1 .f32) (hx : ∀ i, x (ix2 i 0) = nE (grp ids i))

include hx in
/-- The one-hot rows. -/
theorem onehot_apply (i : Fin 2048) (k : Fin 16) : k0_pay3 x (ix2 i k) = nE (if grp ids i = k then 1 else 0) := by
  pointwise [k0_pay3]
  simp only [hx, si' k (by decide), nE_eq, nE_ite]

include hr hx in
/-- The counts as a row. -/
theorem counts_apply (k : Fin 16) : k0_pay4 x (ix2 0 k) = nE (cntN ids k) := by
  pointwise [k0_pay4]
  simp only [onehot_apply x hx, nE_sum]
  exact congrArg nE ((cntN_eq ids k k.2).trans (Finset.card_filter _ _)).symm

/-- A sum against the diagonal. -/
theorem sum_diag (f : Fin 16 → ℕ) (k : Fin 16) : (∑ l, f l * if (k:ℕ) = (l:ℕ) then 1 else 0) = f k := by
  simp [Fin.val_inj]

/-- A sum up to `k` as a sum against a triangle. -/
theorem sum_tri (f : ℕ → ℕ) (k : ℕ) (hk : k < 16): (∑ l : Fin 16, f l * if (l:ℕ) ≤ k then 1 else 0) = ∑ l ∈ Finset.range (k+1), f l := by
  rw [Fin.sum_univ_eq_sum_range (fun l => f l * if l ≤ k then 1 else 0) 16]
  simp only [mul_ite, mul_one, mul_zero]
  rw [← Finset.sum_filter]
  refine Finset.sum_congr ?_ (fun _ _ => rfl)
  ext l; simp; omega

include hr hx in
/-- The ends as a row. -/
theorem ends_row_apply (k : Fin 16) : endsR x (ix2 0 k) = nE (endN ids k) := by
  pointwise [endsR, k0_pay9, k0_pay8, k0_pay7, k0_pay5, k0_pay6, oneF]
  have s16 : ∀ l : Fin 16, (FloatOps.sitofp FTy.f32 (BitVec.ofNat 32 l.val) : Ideal .f32) = nE l := fun l => si' l (by decide)
  simp only [counts_apply hr x hx, s16, nE_eq, nE_le, nE_ite, nE_mul, nE_sum, sum_diag (fun l => cntN ids l)]
  rw [sum_tri (cntN ids) k k.2]
  rfl

/-- The unit matrix. -/
theorem diag_apply (k l : Fin 16) : (k0_pay8 (k0_pay7 (F := Ideal)) oneF : FVec Ideal S16x16 .f32) (ix2 k l) = nE (if (k : ℕ) = (l : ℕ) then 1 else 0) := by
  have s16 : ∀ l : Fin 16, (FloatOps.sitofp FTy.f32 (BitVec.ofNat 32 l.val) : Ideal .f32) = nE l := fun l => si' l (by decide)
  pointwise [k0_pay8, k0_pay7, k0_pay5, k0_pay6, oneF]
  simp only [s16, nE_eq, nE_ite]

/-- A row turned into a column by the unit matrix. -/
theorem col_of_row (a : FVec Ideal S1x16 .f32) (b d : FVec Ideal S16x16 .f32) (e : IVec S16x16 1) (o : Ideal .f32) (k : Fin 16) :
    k0_pay10 a b d e o (ix2 k 0) = ∑ l : Fin 16, k0_pay9 a b d e o (ix2 0 l) * k0_pay8 e o (ix2 k l) := by
  pointwise [k0_pay10]

include hr hx in
/-- The ends as a column. -/
theorem ends_col_apply (k : Fin 16) : endsC x (ix2 k 0) = nE (endN ids k) := by
  have h : ∀ l, k0_pay9 (k0_pay4 x) k0_pay5 k0_pay6 k0_pay7 oneF (ix2 0 l) = nE (endN ids l) := ends_row_apply hr x hx
  unfold endsC
  rw [col_of_row]
  simp only [h, diag_apply, nE_mul, nE_sum, sum_diag (fun l => endN ids l)]

/-- A comparison of the sum of products with a row number. -/
theorem rank_cmp (o : FVec Ideal S2048x16 .f32) (a : FVec Ideal S1x16 .f32) (b d : FVec Ideal S16x16 .f32) (e : IVec S16x16 1) (u : Ideal .f32)
    (t : Vec Ideal S2048x2048 .bf16) (i r : Fin 2048) :
    k0_pay15 (F := Ideal) (k0_pay14 o a b d e u t) (ix2 i r) = if (∑ l : Fin 16, o (ix2 i l) * (k0_pay9 a b d e u (ix2 0 l) - a (ix2 0 l) + ∑ q : Fin 2048, t (ix2 i q) * o (ix2 q l)))
      = FloatOps.sitofp FTy.f32 (BitVec.ofNat 32 r.val) then 1 else 0 := by
  pointwise [k0_pay15, k0_pay14, k0_pay12]

/-- The strict lower triangle. -/
theorem lower_apply (i q : Fin 2048) : (k0_pay13 (F := Ideal)) (ix2 i q) = nE (if (q : ℕ) < (i : ℕ) then 1 else 0) := by
  have s2 : ∀ l : Fin 2048, (FloatOps.sitofp FTy.f32 (BitVec.ofNat 32 l.val) : Ideal .f32) = nE l := fun l => si' l (by decide)
  pointwise [k0_pay13, k0_pay12, k0_pay11]
  simp only [s2, nE_lt, nE_ite]

/-- The tokens before `i` in its group, counted. -/
theorem prefix_sum (i : Fin 2048) : (∑ q : Fin 2048, (if (q : ℕ) < (i : ℕ) then 1 else 0) * if grp ids q = grp ids i then 1 else 0) = preN ids i := by
  unfold preN
  rw [Finset.card_filter]
  refine Finset.sum_congr rfl fun q _ => ?_
  by_cases h1 : (q : ℕ) < (i : ℕ)
  · by_cases h2 : grp ids q = grp ids i
    · rw [if_pos h1, if_pos h2, if_pos ⟨h1, h2⟩]
    · rw [if_neg h2, if_neg (not_and_of_not_right _ h2), Nat.mul_zero]
  · have h1' : ¬ q < i := h1
    rw [if_neg h1, if_neg (not_and_of_not_left _ h1'), Nat.zero_mul]

/-- A group ends where it starts plus its size. -/
theorem end_off (k : ℕ) : endN ids k = offN ids k + cntN ids k := Finset.sum_range_succ _ _

include hr hx in
/-- The row of the sorting matrix: a one at the token's place. -/
theorem perm_apply (i r : Fin 2048) : ptV x (ix2 i r) = nE (if rankN ids i = r then 1 else 0) := by
  have h : ∀ l, k0_pay9 (k0_pay4 x) k0_pay5 k0_pay6 k0_pay7 oneF (ix2 0 l) = nE (endN ids l) := ends_row_apply hr x hx
  unfold ptV
  rw [rank_cmp]
  have e : ∀ l : Fin 16, nE (endN ids l) - nE (cntN ids l) = nE (offN ids l) := fun l => by
    rw [nE_sub _ _ (by rw [end_off]; exact Nat.le_add_left _ _), end_off, Nat.add_sub_cancel]
  simp only [onehot_apply x hx, h, counts_apply hr x hx, lower_apply, e, nE_mul, nE_sum, nE_add, si' r (by decide), nE_eq, nE_ite]
  rw [show (∑ l : Fin 16, (if grp ids i = l then 1 else 0) * (offN ids l + ∑ q : Fin 2048, (if (q:ℕ) < (i:ℕ) then 1 else 0) * if grp ids q = l then 1 else 0)) = rankN ids i from ?_]
  rw [Finset.sum_eq_single (⟨grp ids i, hr i⟩ : Fin 16)]
  · rw [if_pos rfl, one_mul]
    exact congrArg (offN ids (grp ids i) + ·) (prefix_sum i)
  · intro l _ hl; rw [if_neg (fun h => hl (Fin.ext h.symm)), zero_mul]
  · exact fun h => absurd (Finset.mem_univ _) h

include hr hx in
/-- The column of sorted group numbers. -/
theorem patch_col_apply (r : Fin 2048) : scolV x (ix2 r 0) = nE (posN ids r) := by
  have s2 : ∀ l : Fin 2048, (FloatOps.sitofp FTy.f32 (BitVec.ofNat 32 l.val) : Ideal .f32) = nE l := fun l => si' l (by decide)
  pointwise [scolV, k0_pay17, k0_pay11]
  simp only [ends_row_apply hr x hx, s2, nE_le, nE_ite, nE_sum]
  exact congrArg nE (Finset.card_filter _ _).symm

/-- The float word of 256. -/
theorem of1 : Ideal.ofBits .f32 0x43800000#32 = nE 256 := by simp [Ideal.ofBits, Ideal.ieee, nE]; rw [← EReal.coe_mul]; norm_num
/-- The float word of 512. -/
theorem of2 : Ideal.ofBits .f32 0x44000000#32 = nE 512 := by simp [Ideal.ofBits, Ideal.ieee, nE]; rw [← EReal.coe_mul]; norm_num
/-- The float word of 768. -/
theorem of3 : Ideal.ofBits .f32 0x44400000#32 = nE 768 := by simp [Ideal.ofBits, Ideal.ieee, nE]; rw [← EReal.coe_mul]; norm_num
/-- The float word of 1024. -/
theorem of4 : Ideal.ofBits .f32 0x44800000#32 = nE 1024 := by simp [Ideal.ofBits, Ideal.ieee, nE]; rw [← EReal.coe_mul]; norm_num
/-- The float word of 1280. -/
theorem of5 : Ideal.ofBits .f32 0x44A00000#32 = nE 1280 := by simp [Ideal.ofBits, Ideal.ieee, nE]; rw [← EReal.coe_mul]; norm_num
/-- The float word of 1536. -/
theorem of6 : Ideal.ofBits .f32 0x44C00000#32 = nE 1536 := by simp [Ideal.ofBits, Ideal.ieee, nE]; rw [← EReal.coe_mul]; norm_num
/-- The float word of 1792. -/
theorem of7 : Ideal.ofBits .f32 0x44E00000#32 = nE 1792 := by simp [Ideal.ofBits, Ideal.ieee, nE]; rw [← EReal.coe_mul]; norm_num

include hr hx in
/-- The rows of sorted group numbers, by block. -/
theorem patch_row_apply (b : Fin 8) (j : Fin 256) : srowP x b (ix3 0 0 j) = nE (posN ids (256 * b + j)) := by
  have s2 : ∀ l : Fin 256, (FloatOps.sitofp FTy.f32 (BitVec.ofNat 32 l.val) : Ideal .f32) = nE l := fun l => si' l (by decide)
  have fin : ∀ n, (∑ k : Fin 16, if endN ids k ≤ n then 1 else 0) = posN ids n := fun n => (Finset.card_filter _ _).symm
  refine match b with
  | ⟨0, _⟩ => ?_
  | ⟨1, _⟩ => ?_
  | ⟨2, _⟩ => ?_
  | ⟨3, _⟩ => ?_
  | ⟨4, _⟩ => ?_
  | ⟨5, _⟩ => ?_
  | ⟨6, _⟩ => ?_
  | ⟨7, _⟩ => ?_
  all_goals
    unfold srowP
    pointwise [k0_pay18, k0_pay19, k0_pay20, k0_pay21, k0_pay22, k0_pay23, k0_pay24, k0_pay25, k0_pay26, k0_pay27, oneF]
    simp only [ends_col_apply hr x hx, s2, of1, of2, of3, of4, of5, of6, of7, nE_add, nE_le, nE_ite, nE_sum, fin]
    try rw [Nat.add_comm]

end Cert.KernelIdeal.Hand
-- ==== Proof.LoopSum.lean ====
/- The block loop as one sum over all sorted rows. -/
module
public import proofs.«01_k».proof.Proof.TripVal
public import proofs.«01_k».proof.Proof.NVal
@[expose] public section
set_option maxRecDepth 16384
noncomputable section
namespace Cert.KernelIdeal.Hand
open Idealize.ShloMosaic Idealize.ShloMosaic.TcCoe
open Cert.KernelIdeal.Gen

/-- A sum over the rows, block by block. -/
theorem sum_blocks (f : Fin 2048 → EReal) : ∑ b : Fin 8, ∑ j : Fin 256, f (brow b.val j) = ∑ r, f r := by
  rw [← Fintype.sum_prod_type' (f := fun (b : Fin 8) (j : Fin 256) => f (brow b.val j))]
  refine Fintype.sum_equiv finProdFinEquiv _ _ fun p => congrArg f (Fin.ext ?_)
  have h1 := p.1.isLt; have h2 := p.2.isLt
  show (256 * p.1.val + p.2.val) % 2048 = p.2.val + 256 * p.1.val
  omega

/-- A sum over the blocks of a range, when the other blocks give nothing. -/
theorem sum_range_blocks (g : ℕ → EReal) (lo hi : ℕ) (hlo : lo ≤ hi) (hhi : hi ≤ 8) (h0 : ∀ b, b < 8 → ¬ (lo ≤ b ∧ b < hi) → g b = 0) :
    ∑ n ∈ Finset.range (hi - lo), g (lo + n) = ∑ b : Fin 8, g b.val := by
  rw [Fin.sum_univ_eq_sum_range g 8, ← Finset.sum_Ico_eq_sum_range]
  refine Finset.sum_subset (fun b hb => ?_) fun b hb hn => h0 b (Finset.mem_range.mp hb) fun h => hn (Finset.mem_Ico.mpr h)
  rw [Finset.mem_Ico] at hb
  exact Finset.mem_range.mpr (by omega)

attribute [local irreducible] tripV

variable (q : Fin 8 → Vec Ideal S256x64 .bf16) (sc : Vec Ideal S256x1 .f32) (A : Vec Ideal S2048x1536 .bf16) (R : Vec Ideal S8x1x256 .f32) (lo : ℕ)

/-- The row sums after `n` trips. -/
theorem l_loop (h : Fin 8) (i : Fin 256) (n : ℕ) :
    lC (stV q sc A R initV lo n) h i = ∑ b ∈ Finset.range n, ∑ j, wt (q h) sc (kvBlk A (lo + b)) (srBlk R (lo + b)) h i j := by
  induction n with
  | zero => exact l_init h i
  | succ n ih => rw [Finset.sum_range_succ, ← ih]; exact l_trip _ _ _ _ _ _ _

/-- The weighted sums after `n` trips. -/
theorem a_loop (h : Fin 8) (i : Fin 256) (d : Fin 64) (n : ℕ) :
    aC (stV q sc A R initV lo n) h i d = ∑ b ∈ Finset.range n, ∑ j, wt (q h) sc (kvBlk A (lo + b)) (srBlk R (lo + b)) h i j * kvBlk A (lo + b) (ix2 j (vcol h d)) := by
  induction n with
  | zero => exact a_init h i d
  | succ n ih => rw [Finset.sum_range_succ, ← ih]; exact a_trip _ _ _ _ _ _ _ _

variable {ids : IVec S2048 32} (hr : ∀ i, grp ids i < 16) (S : Vec Ideal S2048x1 .f32)
  (hS : ∀ r : Fin 2048, S (ix2 r 0) = nE (posN ids r)) (hR : ∀ (b : Fin 8) (j : Fin 256), R (ix3 b 0 j) = nE (posN ids (256 * b + j)))

/-- The weight of sorted row `r'` for sorted row `r` in head `h`. -/
def wS (A : Vec Ideal S2048x1536 .bf16) (ids : IVec S2048 32) (h : Fin 8) (r r' : Fin 2048) : EReal :=
  Ideal.exp (if posN ids r = posN ids r' then (∑ d, A (ix2 r (qcol h d)) * A (ix2 r' (kcol h d))) * scl else ⊥)

include hS hR in
/-- A weight inside a trip is the weight between two sorted rows. -/
theorem wt_eq (h : Fin 8) (t : ℕ) (i : Fin 256) (b : ℕ) (hb : b < 8) (j : Fin 256) :
    wt (qBlk A t h) (scBlk S t) (kvBlk A b) (srBlk R b) h i j = wS A ids h (brow t i) (brow b j) := by
  have e1 : scBlk S t (ix2 i 0) = nE (posN ids (brow t i)) := hS (brow t i)
  have e2 : srBlk R b (ix3 0 0 j) = nE (posN ids (brow b j)) := by
    have := hR ⟨b % 8, Nat.mod_lt _ (by decide)⟩ j
    refine Eq.trans this (congrArg (fun n => nE (posN ids n)) ?_)
    show 256 * (b % 8) + j.val = (256 * b + j.val) % 2048
    omega
  unfold wt wS
  rw [e1, e2]
  simp only [nE_eq]
  rfl

include hr in
/-- A row outside the bounds has weight zero. -/
theorem wS_zero (h : Fin 8) (r r' : Fin 2048) (hn : ¬ (lobN ids (r.val / 256) ≤ r'.val / 256 ∧ r'.val / 256 < hibN ids (r.val / 256))) :
    wS A ids h r r' = 0 := by
  unfold wS
  rw [if_neg (fun e => hn (cover ids hr r r' e))]
  exact Ideal.exp_bot

/-- A row of block `b` lies in block `b`. -/
theorem brow_div (b : ℕ) (hb : b < 8) (j : Fin 256) : (brow b j).val / 256 = b := by
  show (256 * b + j.val) % 2048 / 256 = b
  omega

include hr hS hR in
/-- The row sums after the loop are sums over all sorted rows. -/
theorem l_all (h : Fin 8) (t : ℕ) (ht : t < 8) (i : Fin 256) :
    lC (stV (qBlk A t) (scBlk S t) A R initV (lobN ids t) (hibN ids t - lobN ids t)) h i = ∑ r', wS A ids h (brow t i) r' := by
  rw [l_loop, ← sum_blocks]
  rw [← sum_range_blocks (fun b => ∑ j, wS A ids h (brow t i) (brow b j)) (lobN ids t) (hibN ids t) (lobN_le_hibN ids t) (hibN_le ids t)]
  · refine Finset.sum_congr rfl fun b hb => Finset.sum_congr rfl fun j _ => wt_eq A R S hS hR h t i _ ?_ j
    have := hibN_le ids t; rw [Finset.mem_range] at hb; omega
  · intro b hb hn
    refine Finset.sum_eq_zero fun j _ => wS_zero A hr h _ _ ?_
    rw [brow_div t ht, brow_div b hb]; exact hn

include hr hS hR in
/-- The weighted sums after the loop are sums over all sorted rows. -/
theorem a_all (h : Fin 8) (t : ℕ) (ht : t < 8) (i : Fin 256) (d : Fin 64) :
    aC (stV (qBlk A t) (scBlk S t) A R initV (lobN ids t) (hibN ids t - lobN ids t)) h i d = ∑ r', wS A ids h (brow t i) r' * A (ix2 r' (vcol h d)) := by
  rw [a_loop, ← sum_blocks]
  rw [← sum_range_blocks (fun b => ∑ j, wS A ids h (brow t i) (brow b j) * A (ix2 (brow b j) (vcol h d))) (lobN ids t) (hibN ids t) (lobN_le_hibN ids t) (hibN_le ids t)]
  · refine Finset.sum_congr rfl fun b hb => Finset.sum_congr rfl fun j _ => ?_
    refine congrArg (· * A (ix2 (brow (lobN ids t + b) j) (vcol h d))) (wt_eq A R S hS hR h t i _ ?_ j)
    have := hibN_le ids t; rw [Finset.mem_range] at hb; omega
  · intro b hb hn
    refine Finset.sum_eq_zero fun j _ => ?_
    rw [wS_zero A hr h, zero_mul]
    rw [brow_div t ht, brow_div b hb]; exact hn

end Cert.KernelIdeal.Hand
-- ==== Proof.Real.lean ====
/- Sums, normalised rows and weighted means of real numbers, read as extended reals. -/
module
public import Idealize.ShloMosaic.Lib.Pointwise
@[expose] public section
noncomputable section
namespace Cert.Real
open Idealize.ShloMosaic

/-- A finite sum of reals. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The row length. -/
theorem bits_512 : Ideal.ofBits FTy.f32 1140850688#32 = ((512 : ℝ) : EReal) := by
  simp [Ideal.ofBits, Ideal.ieee]
  rw [← EReal.coe_mul]; norm_num

/-- The small constant under the root is positive. -/
theorem bits_eps : ∃ e : ℝ, 0 < e ∧ Ideal.ofBits FTy.f32 925353388#32 = (e : EReal) := by
  simp [Ideal.ofBits, Ideal.ieee]
  rw [← EReal.coe_mul]
  exact ⟨_, by positivity, rfl⟩

/-- The scale of the scores. -/
theorem bits_eighth : Ideal.ofBits FTy.f32 0x3E000000#32 = ((1 / 8 : ℝ) : EReal) := by
  simp [Ideal.ofBits, Ideal.ieee]
  rw [← EReal.coe_mul]; norm_num

/-- The head width. -/
theorem bits_64 : Ideal.ofBits FTy.f32 1115684864#32 = ((64 : ℝ) : EReal) := by
  simp [Ideal.ofBits, Ideal.ieee]
  rw [← EReal.coe_mul]; norm_num

/-- One over the root of the head width is the scale. -/
theorem scale_eq : Ideal.div 1 (Ideal.sqrt (Ideal.ofBits FTy.f32 1115684864#32)) = ((1 / 8 : ℝ) : EReal) := by
  have h8 : Real.sqrt 64 = 8 := by
    rw [show (64 : ℝ) = 8 ^ 2 by norm_num]
    exact Real.sqrt_sq (by norm_num)
  rw [bits_64, Ideal.sqrt_coe, if_neg (by norm_num), h8, Ideal.div_coe (by norm_num), one_mul]

/-- The mean of a row. -/
def mean (x : Fin 512 → EReal) : EReal := Ideal.div (∑ k, x k) (Ideal.ofBits FTy.f32 1140850688#32)
/-- The variance of a row plus the small constant. -/
def var (x : Fin 512 → EReal) : EReal :=
  Ideal.div (∑ k, (x k - mean x) * (x k - mean x)) (Ideal.ofBits FTy.f32 1140850688#32) + Ideal.ofBits FTy.f32 925353388#32

/-- On a finite row the mean is finite and the variance positive. -/
theorem mean_var (x : Fin 512 → EReal) (r : Fin 512 → ℝ) (hx : ∀ k, x k = (r k : EReal)) :
    ∃ u v : ℝ, 0 < v ∧ mean x = (u : EReal) ∧ var x = (v : EReal) := by
  obtain ⟨e, he, hE⟩ := bits_eps
  have hm : mean x = (((∑ k, r k) * (1 / 512) : ℝ) : EReal) := by
    unfold mean
    rw [bits_512, Ideal.div_coe (by norm_num), Finset.sum_congr rfl fun k _ => hx k, sum_real, ← EReal.coe_mul]
  refine ⟨_, (∑ k, (r k - (∑ k, r k) * (1 / 512)) * (r k - (∑ k, r k) * (1 / 512))) * (1 / 512) + e, ?_, hm, ?_⟩
  · have : 0 ≤ ∑ k, (r k - (∑ k, r k) * (1 / 512)) * (r k - (∑ k, r k) * (1 / 512)) := Finset.sum_nonneg fun k _ => mul_self_nonneg _
    linarith
  · unfold var
    rw [hm, bits_512, hE, Ideal.div_coe (by norm_num), Finset.sum_congr rfl fun k _ => by rw [hx k, ← EReal.coe_sub, ← EReal.coe_mul], sum_real, ← EReal.coe_mul, ← EReal.coe_add]

/-- Multiplying by the inverse root and dividing by the root give one normalised entry. -/
theorem norm_eq (x : Fin 512 → EReal) (r : Fin 512 → ℝ) (hx : ∀ k, x k = (r k : EReal)) (k : Fin 512) :
    (x k - mean x) * Ideal.rsqrt (var x) = Ideal.div (x k - mean x) (Ideal.sqrt (var x)) ∧ ∃ t : ℝ, (x k - mean x) * Ideal.rsqrt (var x) = (t : EReal) := by
  obtain ⟨u, v, hv, hm, hV⟩ := mean_var x r hx
  have hs : Real.sqrt v ≠ 0 := (Real.sqrt_pos.mpr hv).ne'
  rw [hm, hV, hx k, Ideal.sqrt_coe, Ideal.rsqrt_coe, if_neg hv.not_gt, if_neg hv.not_gt, if_neg hv.ne', Ideal.div_coe hs, one_div]
  exact ⟨rfl, _, by rw [← EReal.coe_sub, ← EReal.coe_mul]⟩

/-- A product of sums of finite terms is finite: one entry of a projection. -/
theorem dot_real {n : ℕ} (a b : Fin n → EReal) (c : EReal) (ha : ∀ k, ∃ r : ℝ, a k = (r : EReal)) (hb : ∀ k, ∃ r : ℝ, b k = (r : EReal)) (hc : ∃ r : ℝ, c = (r : EReal)) :
    ∃ r : ℝ, ∑ k, a k * b k + c = (r : EReal) := by
  choose f hf using ha
  choose g hg using hb
  obtain ⟨d, hd⟩ := hc
  refine ⟨∑ k, f k * g k + d, ?_⟩
  rw [hd, EReal.coe_add, ← sum_real]
  refine congrArg (· + (d : EReal)) (Finset.sum_congr rfl fun k _ => ?_)
  rw [hf, hg, EReal.coe_mul]

variable {n : ℕ} (p : Fin n → Prop) [DecidablePred p] (l v : Fin n → ℝ)

/-- The exponential of a masked score. -/
theorem exp_masked (j : Fin n) : Ideal.exp (if p j then (l j : EReal) else ⊥) = ((if p j then Real.exp (l j) else 0 : ℝ) : EReal) := by
  split
  · exact Ideal.exp_coe _
  · simp

/-- The exponential of a masked score less a real number. -/
theorem exp_masked_sub (M : ℝ) (j : Fin n) :
    Ideal.exp ((if p j then (l j : EReal) else ⊥) - (M : EReal)) = (((if p j then Real.exp (l j) else 0) * Real.exp (-M) : ℝ) : EReal) := by
  split
  · rw [← EReal.coe_sub, Ideal.exp_coe, ← Real.exp_add, sub_eq_add_neg]
  · rw [EReal.bot_sub, Ideal.exp_bot, zero_mul, EReal.coe_zero]

/-- The mean weighted by shifted and divided exponentials is the ratio of the plain sums. -/
theorem softmax_eq (M : ℝ) (j₀ : Fin n) (h₀ : p j₀) :
    ∑ j, Ideal.div (Ideal.exp ((if p j then (l j : EReal) else ⊥) - (M : EReal))) (∑ j', Ideal.exp ((if p j' then (l j' : EReal) else ⊥) - (M : EReal))) * (v j : EReal)
      = Ideal.div (∑ j, Ideal.exp (if p j then (l j : EReal) else ⊥) * (v j : EReal)) (∑ j, Ideal.exp (if p j then (l j : EReal) else ⊥)) := by
  simp only [exp_masked, exp_masked_sub, sum_real, ← EReal.coe_mul]
  have hpos : 0 < ∑ j, (if p j then Real.exp (l j) else 0) := by
    refine Finset.sum_pos' (fun j _ => ?_) ⟨j₀, Finset.mem_univ _, ?_⟩
    · split
      · exact (Real.exp_pos _).le
      · exact le_rfl
    · rw [if_pos h₀]; exact Real.exp_pos _
  have hM := Real.exp_pos (-M)
  have h2 : ∑ j, (if p j then Real.exp (l j) else 0) * Real.exp (-M) = (∑ j, (if p j then Real.exp (l j) else 0)) * Real.exp (-M) := (Finset.sum_mul _ _ _).symm
  rw [h2]
  generalize hD : ∑ j, (if p j then Real.exp (l j) else 0) = D at hpos
  have hDM : D * Real.exp (-M) ≠ 0 := mul_ne_zero hpos.ne' hM.ne'
  simp only [Ideal.div_coe hDM, Ideal.div_coe hpos.ne', ← EReal.coe_mul, sum_real]
  refine congrArg _ ?_
  rw [Finset.sum_mul]
  refine Finset.sum_congr rfl fun j _ => ?_
  field_simp

/-- The maximum of the masked scores is a real number. -/
theorem max_real (j₀ : Fin n) (h₀ : p j₀) :
    ∃ M : ℝ, max ⊥ ((Finset.univ : Finset (Fin n)).fold max ⊥ fun j => if p j then (l j : EReal) else ⊥) = (M : EReal) := by
  rw [max_eq_right bot_le]
  have h1 : (Finset.univ : Finset (Fin n)).fold max ⊥ (fun j => if p j then (l j : EReal) else ⊥) < ⊤ :=
    (Finset.fold_max_lt _).mpr ⟨bot_lt_top, fun j _ => by
      split
      · exact EReal.coe_lt_top _
      · exact bot_lt_top⟩
  have h2 : (l j₀ : EReal) ≤ (Finset.univ : Finset (Fin n)).fold max ⊥ (fun j => if p j then (l j : EReal) else ⊥) :=
    (Finset.le_fold_max _).mpr (Or.inr ⟨j₀, Finset.mem_univ _, by rw [if_pos h₀]⟩)
  generalize (Finset.univ : Finset (Fin n)).fold max ⊥ (fun j => if p j then (l j : EReal) else ⊥) = w at h1 h2
  induction w using EReal.rec with
  | bot => exact absurd h2 (not_le.mpr (EReal.bot_lt_coe _))
  | top => exact absurd h1 (lt_irrefl _)
  | coe r => exact ⟨r, rfl⟩

end Cert.Real
-- ==== Proof.KerVal.lean ====
/- The kernel's result, entry by entry, over the tokens. -/
module
public import proofs.«01_k».proof.Proof.FrDat
public import proofs.«01_k».proof.Proof.LoopSum
public import proofs.«01_k».proof.Proof.Rank
public import proofs.«01_k».proof.Proof.Real
@[expose] public section
set_option maxRecDepth 16384
noncomputable section
namespace Cert.KernelIdeal.Hand
open Idealize.ShloMosaic Idealize.ShloMosaic.TcCoe
open Cert.KernelIdeal.Gen

/-- The normalised rows. -/
theorem norm_apply (x : Vec Ideal S2048x512 .f32) (a b : Vec Ideal S1x512 .f32) (i : Fin 2048) (k : Fin 512) :
    (k0_pay2 x a b (ix2 i k) : EReal) = (x (ix2 i k) - Cert.Real.mean fun k => x (ix2 i k)) * Ideal.rsqrt (Cert.Real.var fun k => x (ix2 i k)) * a (ix2 0 k) + b (ix2 0 k) := by
  pointwise [k0_pay2]
  rfl

/-- A joint projection. -/
theorem proj_apply (x : Vec Ideal S2048x512 .bf16) (w : Vec Ideal S1536x512 .f32) (b : Vec Ideal S1x1536 .f32) (i : Fin 2048) (k : Fin 1536) :
    (k0_pay71 x (k0_pay28 w) b (ix2 i k) : EReal) = ∑ y, x (ix2 i y) * w (ix2 k y) + b (ix2 0 k) := by
  pointwise [k0_pay71, k0_pay28]

/-- Rows gathered by a matrix. -/
theorem gather_apply (x : FVec Ideal S2048x512 .f32) (p : Vec Ideal S2048x2048 .bf16) (r : Fin 2048) (k : Fin 512) :
    (k0_pay16 x p (ix2 r k) : EReal) = ∑ i, p (ix2 i r) * x (ix2 i k) := by
  pointwise [k0_pay16]

/-- The last step: rows gathered back, the bias and the input added. -/
theorem last_apply (p : Vec Ideal S2048x2048 .bf16) (y : Vec Ideal S2048x512 .bf16) (x : Vec Ideal S2048x512 .f32) (b : Vec Ideal S1x512 .f32) (i : Fin 2048) (k : Fin 512) :
    (k0_pay1 p y x b (ix2 i k) : EReal) = x (ix2 i k) + b (ix2 0 k) + ∑ r, p (ix2 i r) * y (ix2 r k) := by
  pointwise [k0_pay1]

/-- The output projection's matrix is itself. -/
theorem wp_apply (w : Vec Ideal S512x512 .f32) (i k : Fin 512) : (wpV w (ix2 i k) : EReal) = w (ix2 i k) := by
  pointwise [wpV, k0_pay70, k0_pay29]

/-- A sum against an indicator is one term. -/
theorem sum_one {n : ℕ} (q : Fin n → Prop) [DecidablePred q] (f : Fin n → EReal) (i : Fin n) (hq : ∀ j, q j ↔ j = i) :
    ∑ j, nE (if q j then 1 else 0) * f j = f i := by
  rw [Finset.sum_eq_single i]
  · rw [if_pos ((hq i).mpr rfl), nE_one, one_mul]
  · intro j _ hj
    rw [if_neg fun h => hj ((hq j).mp h), nE_zero, zero_mul]
  · exact fun h => absurd (Finset.mem_univ i) h

variable {ids : IVec S2048 32} (hr : ∀ i, grp ids i < 16) (x3 : Vec Ideal S2048x1 .f32) (hx : ∀ i, x3 (ix2 i 0) = nE (grp ids i))

include hr hx in
/-- Gathering by the sorting matrix puts the token of rank `r` at row `r`. -/
theorem sorted_apply (x2 : Vec Ideal S2048x512 .f32) (a b : Vec Ideal S1x512 .f32) (r : Fin 2048) (k : Fin 512) :
    (xsV x2 x3 a b (ix2 r k) : EReal) = k0_pay2 x2 a b (ix2 ((rankE ids hr).symm r) k) := by
  unfold xsV
  rw [gather_apply]
  simp only [perm_apply hr x3 hx]
  refine sum_one (fun i => rankN ids i = r) (fun i => k0_pay2 x2 a b (ix2 i k)) _ fun i => ?_
  rw [← rankE_val ids hr, Equiv.eq_symm_apply]
  exact ⟨fun h => Fin.ext h, fun h => congrArg Fin.val h⟩

/-- The joint projection of a token. -/
def tok (x2 : Vec Ideal S2048x512 .f32) (a b : Vec Ideal S1x512 .f32) (w : Vec Ideal S1536x512 .f32) (bq : Vec Ideal S1x1536 .f32) (i : Fin 2048) (k : Fin 1536) : EReal :=
  ∑ y, (k0_pay2 x2 a b (ix2 i y) : EReal) * w (ix2 k y) + bq (ix2 0 k)

include hr hx in
/-- A sorted row of the joint projection is its token's. -/
theorem joint_apply (x2 : Vec Ideal S2048x512 .f32) (a b : Vec Ideal S1x512 .f32) (w : Vec Ideal S1536x512 .f32) (bq : Vec Ideal S1x1536 .f32) (r : Fin 2048) (k : Fin 1536) :
    (qkvV x2 x3 a b w bq (ix2 r k) : EReal) = tok x2 a b w bq ((rankE ids hr).symm r) k := by
  unfold qkvV tok
  rw [proj_apply]
  simp only [sorted_apply hr x3 hx]

variable (T : Fin 2048 → Fin 1536 → EReal)
/-- The weight of token `j` for token `i` in head `h`. -/
def wT (ids : IVec S2048 32) (h : Fin 8) (i j : Fin 2048) : EReal :=
  Ideal.exp (if grp ids i = grp ids j then (∑ d, T i (qcol h d) * T j (kcol h d)) * scl else ⊥)
/-- The weighted mean of the values for token `i`. -/
def yT (ids : IVec S2048 32) (h : Fin 8) (i : Fin 2048) (d : Fin 64) : EReal :=
  Ideal.div (∑ j, wT T ids h i j * T j (vcol h d)) (∑ j, wT T ids h i j)

variable (A : Vec Ideal S2048x1536 .bf16) (hA : ∀ r k, (A (ix2 r k) : EReal) = T ((rankE ids hr).symm r) k)
include hA in
/-- A weight between sorted rows is that between their tokens. -/
theorem wS_tok (h : Fin 8) (r r' : Fin 2048) : wS A ids h r r' = wT T ids h ((rankE ids hr).symm r) ((rankE ids hr).symm r') := by
  unfold wS wT
  simp only [hA, posN_symm ids hr]

variable (S : Vec Ideal S2048x1 .f32) (R : Vec Ideal S8x1x256 .f32) (hS : ∀ r : Fin 2048, S (ix2 r 0) = nE (posN ids r))
  (hR : ∀ (b : Fin 8) (j : Fin 256), R (ix3 b 0 j) = nE (posN ids (256 * b + j)))

include hA hS hR in
/-- A block of the joined rows. -/
theorem block_apply (W : Vec Ideal S512x512 .f32) (t : ℕ) (ht : t < 8) (i : Fin 256) (k : Fin 512) :
    (blkV A S R (wpV W) (lobN ids t) (hibN ids t) t (ix2 i k) : EReal)
      = ∑ x : Fin 512, yT T ids ⟨x.val / 64, by omega⟩ ((rankE ids hr).symm (brow t i)) ⟨x.val % 64, by omega⟩ * W (ix2 k x) := by
  unfold blkV
  rw [out_apply]
  refine Finset.sum_congr rfl fun x _ => ?_
  rw [wp_apply, l_all A R hr S hS hR _ t ht, a_all A R hr S hS hR _ t ht]
  unfold yT
  simp only [wS_tok hr T A hA, hA]
  rw [Equiv.sum_comp (rankE ids hr).symm fun j => wT T ids ⟨x.val / 64, by omega⟩ ((rankE ids hr).symm (brow t i)) j * T j (vcol ⟨x.val / 64, by omega⟩ ⟨x.val % 64, by omega⟩),
    Equiv.sum_comp (rankE ids hr).symm fun j => wT T ids ⟨x.val / 64, by omega⟩ ((rankE ids hr).symm (brow t i)) j]

end Cert.KernelIdeal.Hand
-- ==== Proof.HostCol.lean ====
/- The arrays the host reshapes before the launch, read at an index. -/
module
public import proofs.«01_k».proof.Proof.FrDat
public import Idealize.ShloMosaic.Lib.Pointwise
public import Idealize.ShloMosaic.Lib.StableHlo.RunRead
public import Idealize.ShloMosaic.Lib.Claim
@[expose] public section
set_option maxRecDepth 16384
noncomputable section
namespace Cert.KernelIdeal.Hand
open Idealize.ShloMosaic Idealize.ShloMosaic.TcCoe Idealize.ShloMosaic.Tactic
open Cert.KernelIdeal.Gen

/-- The four rows and the column the host makes of the vectors. -/
def colW (v : IVec S2048 32) : Vec Ideal S2048x1 .f32 := shapeCast S2048x1 (sitofp (F := Ideal) .f32 v) (by decide)
def row512 (v : Vec Ideal S512 .f32) : Vec Ideal S1x512 .f32 := shapeCast S1x512 v (by decide)
def row1536 (v : Vec Ideal S1536 .f32) : Vec Ideal S1x1536 .f32 := shapeCast S1x1536 v (by decide)

/-- An entry of the column is the id at its row, as a float. -/
theorem colW_apply (v : IVec S2048 32) (i : Fin 2048) : colW v (ix2 i 0) = (FloatOps.sitofp FTy.f32 (v (ix1 i)) : Ideal .f32) := by
  pointwise [colW]
/-- An entry of the row is the vector's entry. -/
theorem row512_apply (v : Vec Ideal S512 .f32) (i : Fin 512) : row512 v (ix2 0 i) = v (ix1 i) := by
  pointwise [row512]
/-- An entry of the row is the vector's entry. -/
theorem row1536_apply (v : Vec Ideal S1536 .f32) (i : Fin 1536) : row1536 v (ix2 0 i) = v (ix1 i) := by
  pointwise [row1536]

variable (m : (ℓ : Loc nD τ sig) → Buf (Elt Ideal) ℓ) (c : Dev nD)

set_option maxHeartbeats 2000000 in
/-- The column of ids that the host code makes. -/
theorem V_ids : (Gen.V m c main_call0_v1 : Vec Ideal S2048x1 .f32) = colW (m ((c.tc : Thread nD τ).loc main_arg1)) := by
  unfold_abbrev_sides
  after_reads_simp
  simp -implicitDefEqProofs only [StableHlo.TRef.toBuf, StableHlo.TRef.ofBuf, cast_eq]
  rfl
set_option maxHeartbeats 2000000 in
/-- The layer norm's scale as a row. -/
theorem V_ls : (Gen.V m c main_call0_v53 : Vec Ideal S1x512 .f32) = row512 (m ((c.tc : Thread nD τ).loc main_arg2)) := by
  unfold_abbrev_sides
  after_reads_simp
  rfl
set_option maxHeartbeats 2000000 in
/-- The layer norm's offset as a row. -/
theorem V_lb : (Gen.V m c main_call0_v54 : Vec Ideal S1x512 .f32) = row512 (m ((c.tc : Thread nD τ).loc main_arg3)) := by
  unfold_abbrev_sides
  after_reads_simp
  rfl
set_option maxHeartbeats 2000000 in
/-- The joint projection's bias as a row. -/
theorem V_bq : (Gen.V m c main_call0_v55 : Vec Ideal S1x1536 .f32) = row1536 (m ((c.tc : Thread nD τ).loc main_arg5)) := by
  unfold_abbrev_sides
  after_reads_simp
  rfl
set_option maxHeartbeats 2000000 in
/-- The output bias as a row. -/
theorem V_bp : (Gen.V m c main_call0_v56 : Vec Ideal S1x512 .f32) = row512 (m ((c.tc : Thread nD τ).loc main_arg7)) := by
  unfold_abbrev_sides
  after_reads_simp
  rfl
end Cert.KernelIdeal.Hand
-- ==== Proof.KerOut.lean ====
/- The kernel's result, entry by entry, from its arguments. -/
module
public import proofs.«01_k».proof.Proof.KerVal
public import proofs.«01_k».proof.Proof.HostCol
@[expose] public section
set_option maxRecDepth 16384
noncomputable section
namespace Cert.KernelIdeal.Hand
open Idealize.ShloMosaic Idealize.ShloMosaic.TcCoe
open Cert.KernelIdeal.Gen

variable (m : (ℓ : Loc nD τ sig) → Buf (Elt Ideal) ℓ) (c : Dev nD)

/-- The input. -/
def xM : Vec Ideal S2048x512 .f32 := m ((c.tc : Thread nD τ).loc main_arg0)
/-- The output projection. -/
def wpM : Vec Ideal S512x512 .f32 := m ((c.tc : Thread nD τ).loc main_arg6)
/-- The output bias. -/
def bpM : Vec Ideal S512 .f32 := m ((c.tc : Thread nD τ).loc main_arg7)
/-- The group ids the program is given. -/
def idsM : IVec S2048 32 := m ((c.tc : Thread nD τ).loc main_arg1)

/-- The joint projection of a token, from the arguments. -/
def tokM (i : Fin 2048) (k : Fin 1536) : EReal :=
  tok (m ((c.tc : Thread nD τ).loc main_arg0)) (row512 (m ((c.tc : Thread nD τ).loc main_arg2))) (row512 (m ((c.tc : Thread nD τ).loc main_arg3))) (m ((c.tc : Thread nD τ).loc main_arg4)) (row1536 (m ((c.tc : Thread nD τ).loc main_arg5))) i k

/-- The column of ids holds the group numbers. -/
theorem col_ids (hr : ∀ i, grp (idsM m c) i < 16) (i : Fin 2048) : (Gen.V m c main_call0_v1 : Vec Ideal S2048x1 .f32) (ix2 i 0) = nE (grp (idsM m c) i) := by
  have e : idsM m c (ix1 i) = BitVec.ofNat 32 (grp (idsM m c) i) := by
    unfold grp
    rw [BitVec.ofNat_toNat, BitVec.setWidth_eq]
    rfl
  rw [V_ids, colW_apply]
  refine Eq.trans (congrArg (FloatOps.sitofp (F := Ideal) FTy.f32) e) (si _ ?_)
  have := hr i
  omega

/-- The row at `256 b + a` of block `b`. -/
theorem brow_self (r : Fin 2048) : brow (r.val / 256) (⟨r.val % 256, Nat.mod_lt _ (by decide)⟩ : Fin 256) = r := by
  refine Fin.ext ?_
  show (256 * (r.val / 256) + r.val % 256) % 2048 = r.val
  have := r.isLt
  omega

/-- A joined row is its token's heads, projected. -/
theorem joined_apply (hr : ∀ i, grp (idsM m c) i < 16) (r : Fin 2048) (k : Fin 512) :
    (joined m c (ix2 r k) : EReal) = ∑ x : Fin 512, yT (tokM m c) (idsM m c) ⟨x.val / 64, by omega⟩ ((rankE (idsM m c) hr).symm r) ⟨x.val % 64, by omega⟩
      * wpM m c (ix2 k x) := by
  have hx := col_ids m c hr
  have hJ : ∀ r k, (joint m c (ix2 r k) : EReal) = tokM m c ((rankE (idsM m c) hr).symm r) k := by
    intro r k
    unfold joint tokM
    rw [joint_apply hr _ hx, V_ls, V_lb, V_bq, Gen.V_main_arg0, Gen.V_main_arg4]
  have h := block_apply hr (tokM m c) (joint m c) hJ (colI m c) (rowI m c) (fun r => patch_col_apply hr _ hx r) (fun b j => patch_row_apply hr _ hx b j)
    (wpM m c) (r.val / 256) (by omega) ⟨r.val % 256, Nat.mod_lt _ (by decide)⟩ k
  rw [brow_self] at h
  refine Eq.trans ?_ h
  unfold joined blockAt outW
  rw [Gen.V_main_arg6]
  rfl

/-- The result at token `i`. -/
theorem out_tok (hr : ∀ i, grp (idsM m c) i < 16) (i : Fin 2048) (k : Fin 512) :
    (outV0 m c (ix2 i k) : EReal) = (xM m c (ix2 i k) : EReal) + (bpM m c (ix1 k) : EReal)
      + ∑ x : Fin 512, yT (tokM m c) (idsM m c) ⟨x.val / 64, by omega⟩ i ⟨x.val % 64, by omega⟩ * wpM m c (ix2 k x) := by
  have hx := col_ids m c hr
  unfold outV0 perm
  rw [last_apply, V_bp, row512_apply, Gen.V_main_arg0]
  refine congrArg (fun z : EReal => (xM m c (ix2 i k) : EReal) + (bpM m c (ix1 k) : EReal) + z) ?_
  simp only [perm_apply hr _ hx]
  rw [sum_one (fun r : Fin 2048 => rankN (idsM m c) i = r) (fun r => joined m c (ix2 r k)) (rankE (idsM m c) hr i), joined_apply m c hr, Equiv.symm_apply_apply]
  intro r
  rw [← rankE_val (idsM m c) hr]
  exact ⟨fun h => Fin.ext h.symm, fun h => congrArg Fin.val h.symm⟩

end Cert.KernelIdeal.Hand
-- ==== Proof.RefVal.lean ====
/- What each stage of the reference holds, entry by entry. -/
module
public import proofs.«01_k».proof.Proof.Gen.ReferenceIdeal.Read
public import proofs.«01_k».proof.Proof.Real
public import Idealize.ShloMosaic.Lib.Pointwise
public import Idealize.ShloMosaic.PureOps.Ideal.Laws
@[expose] public section
set_option maxRecDepth 16384
noncomputable section
namespace Cert.ReferenceIdeal.Hand
open Idealize.ShloMosaic Idealize.ShloMosaic.TcCoe Cert.ReferenceIdeal.Read Cert.ReferenceIdeal
variable (x0 : (⟨S2048x512, .f32⟩ : BufTy).Contents (Elt Ideal)) (x1 : (⟨S2048, .i32⟩ : BufTy).Contents (Elt Ideal)) (x2 x3 : (⟨S512, .f32⟩ : BufTy).Contents (Elt Ideal)) (x4 : (⟨S1536x512, .f32⟩ : BufTy).Contents (Elt Ideal)) (x5 : (⟨S1536, .f32⟩ : BufTy).Contents (Elt Ideal))
  (x6 : (⟨S512x512, .f32⟩ : BufTy).Contents (Elt Ideal)) (x7 : (⟨S512, .f32⟩ : BufTy).Contents (Elt Ideal))

/-- The normalised rows. -/
theorem r23 (i : Fin 2048) (k : Fin 512) : (val_main_v23 x0 x2 x3 (ix2 i k) : EReal)
    = Ideal.div (x0 (ix2 i k) - Real.mean fun k => x0 (ix2 i k)) (Ideal.sqrt (Real.var fun k => x0 (ix2 i k))) * x2 (ix1 k) + x3 (ix1 k) := by
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  rfl

/-- The joint projection. -/
theorem r28 (i : Fin 2048) (k : Fin 1536) : (val_main_v28 x0 x2 x3 x4 x5 (ix2 i k) : EReal)
    = ∑ x, val_main_v23 x0 x2 x3 (ix2 i x) * x4 (ix2 k x) + x5 (ix1 k) := by
  pointwise [val_main_v28, val_main_v27, val_main_v26, val_main_v25, val_main_v24]

/-- The queries. -/
theorem r33 (h : Fin 8) (i : Fin 2048) (k : Fin 64) : (val_main_v33 x0 x2 x3 x4 x5 (ix3 h i k) : EReal)
    = val_main_v28 x0 x2 x3 x4 x5 (ix2 i ⟨64 * h.val + k.val, by omega⟩) := by
  pointwise [val_main_v33, val_main_v32, val_main_v29]
  exact congrArg _ (congrArg (ix2 i) (Fin.ext (by dsimp only; omega)))

/-- The keys. -/
theorem r35 (h : Fin 8) (i : Fin 2048) (k : Fin 64) : (val_main_v35 x0 x2 x3 x4 x5 (ix3 h i k) : EReal)
    = val_main_v28 x0 x2 x3 x4 x5 (ix2 i ⟨(512 + 64 * h.val) + k.val, by omega⟩) := by
  pointwise [val_main_v35, val_main_v34, val_main_v30]
  exact congrArg _ (congrArg (ix2 i) (Fin.ext (by dsimp only; omega)))

/-- The values. -/
theorem r37 (h : Fin 8) (i : Fin 2048) (k : Fin 64) : (val_main_v37 x0 x2 x3 x4 x5 (ix3 h i k) : EReal)
    = val_main_v28 x0 x2 x3 x4 x5 (ix2 i ⟨(1024 + 64 * h.val) + k.val, by omega⟩) := by
  pointwise [val_main_v37, val_main_v36, val_main_v31]
  exact congrArg _ (congrArg (ix2 i) (Fin.ext (by dsimp only; omega)))

/-- The scaled scores. -/
theorem r42 (h : Fin 8) (i j : Fin 2048) : (val_main_v42 x0 x2 x3 x4 x5 (ix3 h i j) : EReal)
    = (∑ x, val_main_v33 x0 x2 x3 x4 x5 (ix3 h i x) * val_main_v35 x0 x2 x3 x4 x5 (ix3 h j x)) * ((1 / 8 : ℝ) : EReal) := by
  rw [← Real.scale_eq]
  pointwise [val_main_v42, val_main_v41, val_main_v40, val_main_v39, val_main_v38, val_main_cst_4, val_main_cst_5]

/-- The least float reads as minus infinity. -/
theorem bits_bot : Ideal.ofBits FTy.f32 0xFF800000#32 = ⊥ := by simp [Ideal.ofBits, Ideal.ieee]

/-- The masked scores. -/
theorem r49 (h : Fin 8) (i j : Fin 2048) : (val_main_v49 x0 x1 x2 x3 x4 x5 (ix3 h i j) : EReal)
    = if x1 (ix1 i) = x1 (ix1 j) then val_main_v42 x0 x2 x3 x4 x5 (ix3 h i j) else ⊥ := by
  pointwise [val_main_v49, val_main_call0_v0, val_main_call0_v1, val_main_call0_v2, val_main_v48, val_main_v47, val_main_v46, val_main_v45, val_main_v44, val_main_v43, val_main_cst_6]
  rw [show (id (constant (F := Ideal) S_ FTy.f32 4286578688#32) ix0 : EReal) = ⊥ from bits_bot]
  by_cases e : x1 (ix1 i) = x1 (ix1 j)
  · simp [e, Scalar.select, IntOp.cmpi]
  · simp [e, Scalar.select, IntOp.cmpi, beq_eq_false_iff_ne.mpr e]

/-- The row maximum. -/
theorem r52 (h : Fin 8) (i : Fin 2048) : (val_main_v52 x0 x1 x2 x3 x4 x5 (ix2 h i) : EReal)
    = max ⊥ ((Finset.univ : Finset (Fin 2048)).fold max ⊥ fun j => val_main_v49 x0 x1 x2 x3 x4 x5 (ix3 h i j)) := by
  rw [val_main_v52_apply, val_main_v51_apply, val_main_cst_8_apply]
  unfold val_main_v50
  generalize val_main_v49 x0 x1 x2 x3 x4 x5 = y
  have hR : S8x2048x2048.Reduces [2] S8x2048 := by decide
  rw [Host.reduce_eq_fold_single _ y _ _ hR, val_main_cst_7_apply]
  have hl : (y ∘ hR.lift (ix2 h i)) = fun j => y (ix3 h i j) := by
    funext j
    refine congrArg y (funext fun k => ?_)
    match k with
    | ⟨0, _⟩ => rfl
    | ⟨1, _⟩ => rfl
    | ⟨2, _⟩ => rfl
  rw [hl]
  exact congrArg₂ (fun a b : EReal => max a ((Finset.univ : Finset (Fin 2048)).fold max b fun j => y (ix3 h i j))) bits_bot bits_bot

/-- The exponentials. -/
theorem r56 (h : Fin 8) (i j : Fin 2048) : (val_main_v56 x0 x1 x2 x3 x4 x5 (ix3 h i j) : EReal)
    = Ideal.exp (val_main_v49 x0 x1 x2 x3 x4 x5 (ix3 h i j) - val_main_v52 x0 x1 x2 x3 x4 x5 (ix2 h i)) := by
  rw [val_main_v56_apply, val_main_v55_apply, val_main_v54_apply, val_main_v53_apply]
  have e : idx_main_v53 (idx_main_v54 (ix3 h i j)) = ix2 h i := by
    funext k
    match k with
    | ⟨0, _⟩ => rfl
    | ⟨1, _⟩ => rfl
  rw [e]
  rfl

/-- The softmax. -/
theorem r60 (h : Fin 8) (i j : Fin 2048) : (val_main_v60 x0 x1 x2 x3 x4 x5 (ix3 h i j) : EReal)
    = Ideal.div (val_main_v56 x0 x1 x2 x3 x4 x5 (ix3 h i j)) (∑ x, val_main_v56 x0 x1 x2 x3 x4 x5 (ix3 h i x)) := by
  pointwise [val_main_v60, val_main_v59, val_main_v58, val_main_v57, val_main_cst_9]

/-- The heads' results. -/
theorem r61 (h : Fin 8) (i : Fin 2048) (d : Fin 64) : (val_main_v61 x0 x1 x2 x3 x4 x5 (ix3 h i d) : EReal)
    = ∑ x, val_main_v60 x0 x1 x2 x3 x4 x5 (ix3 h i x) * val_main_v37 x0 x2 x3 x4 x5 (ix3 h x d) := by
  pointwise [val_main_v61]

/-- The result. -/
theorem r69 (i : Fin 2048) (c : Fin 512) : (val_main_v69 x0 x1 x2 x3 x4 x5 x6 x7 (ix2 i c) : EReal)
    = x0 (ix2 i c) + (∑ x : Fin 512, val_main_v61 x0 x1 x2 x3 x4 x5 (ix3 ⟨x.val / 64, by omega⟩ i ⟨x.val % 64, by omega⟩) * x6 (ix2 c x) + x7 (ix1 c)) := by
  pointwise [val_main_v69, val_main_v68, val_main_v67, val_main_v66, val_main_v65, val_main_v64, val_main_v63, val_main_v62]

end Cert.ReferenceIdeal.Hand
-- ==== Proof.Same.lean ====
/- The reference and the kernel compute one value at every entry. -/
module
public import proofs.«01_k».proof.Proof.KerOut
public import proofs.«01_k».proof.Proof.RefVal
public import proofs.«01_k».proof.Proof.Real
@[expose] public section
set_option maxRecDepth 16384
noncomputable section
namespace Cert.Same
open Idealize.ShloMosaic Idealize.ShloMosaic.TcCoe
open Cert.KernelIdeal Cert.KernelIdeal.Gen Cert.KernelIdeal.Hand Cert.ReferenceIdeal.Read Cert.ReferenceIdeal.Hand

variable (x : Vec Ideal KernelIdeal.S2048x512 .f32) (ids : IVec KernelIdeal.S2048 32) (a b : Vec Ideal KernelIdeal.S512 .f32) (W : Vec Ideal KernelIdeal.S1536x512 .f32) (bq : Vec Ideal KernelIdeal.S1536 .f32)
  (hx : ∀ j, ∃ r : ℝ, x j = (r : EReal)) (ha : ∀ j, ∃ r : ℝ, a j = (r : EReal)) (hb : ∀ j, ∃ r : ℝ, b j = (r : EReal))
  (hW : ∀ j, ∃ r : ℝ, W j = (r : EReal)) (hq : ∀ j, ∃ r : ℝ, bq j = (r : EReal))

include hx in
/-- The two normalised rows are one. -/
theorem norm_same (i : Fin 2048) (k : Fin 512) : (val_main_v23 x a b (ix2 i k) : EReal) = k0_pay2 x (row512 a) (row512 b) (ix2 i k) := by
  choose f hf using hx
  rw [r23, norm_apply, row512_apply, row512_apply, (Cert.Real.norm_eq (fun k => x (ix2 i k)) (fun k => f (ix2 i k)) (fun k => hf _) k).1]

include hx ha hb in
/-- A normalised entry is finite. -/
theorem norm_real (i : Fin 2048) (k : Fin 512) : ∃ t : ℝ, (k0_pay2 x (row512 a) (row512 b) (ix2 i k) : EReal) = (t : EReal) := by
  choose f hf using hx
  obtain ⟨t, ht⟩ := (Cert.Real.norm_eq (fun k => x (ix2 i k)) (fun k => f (ix2 i k)) (fun k => hf _) k).2
  obtain ⟨u, hu⟩ := ha (ix1 k)
  obtain ⟨v, hv⟩ := hb (ix1 k)
  rw [norm_apply, row512_apply, row512_apply, hu, hv, ht]
  exact ⟨t * u + v, by rw [EReal.coe_add, EReal.coe_mul]⟩

include hx in
/-- The two joint projections are one. -/
theorem tok_same (i : Fin 2048) (k : Fin 1536) : (val_main_v28 x a b W bq (ix2 i k) : EReal) = tok x (row512 a) (row512 b) W (row1536 bq) i k := by
  rw [r28]
  unfold tok
  rw [row1536_apply]
  exact congrArg (· + (bq (ix1 k) : EReal)) (Finset.sum_congr rfl fun y _ => congrArg (· * (W (ix2 k y) : EReal)) (norm_same x a b hx i y))

include hx ha hb hW hq in
/-- The joint projection is finite. -/
theorem tok_real (i : Fin 2048) (k : Fin 1536) : ∃ t : ℝ, tok x (row512 a) (row512 b) W (row1536 bq) i k = (t : EReal) := by
  unfold tok
  rw [row1536_apply]
  exact Cert.Real.dot_real _ _ _ (fun y => norm_real x a b hx ha hb i y) (fun y => hW _) (hq _)

/-- Equal ids are equal group numbers. -/
theorem grp_iff (i j : Fin 2048) : ids (ix1 i) = ids (ix1 j) ↔ grp ids i = grp ids j :=
  ⟨fun h => congrArg BitVec.toNat h, fun h => BitVec.eq_of_toNat_eq h⟩

include hx ha hb hW hq in
/-- The heads' results are one. -/
theorem head_same (h : Fin 8) (i : Fin 2048) (d : Fin 64) :
    (val_main_v61 x ids a b W bq (ix3 h i d) : EReal) = yT (tok x (row512 a) (row512 b) W (row1536 bq)) ids h i d := by
  have hT := tok_real x a b W bq hx ha hb hW hq
  choose T hT using hT
  have h28 : ∀ i k, (val_main_v28 x a b W bq (ix2 i k) : EReal) = (T i k : EReal) := fun i k => (tok_same x a b W bq hx i k).trans (hT i k)
  have hl : ∀ j, (∑ d, (T i (qcol h d) : EReal) * (T j (kcol h d) : EReal)) * ((1 / 8 : ℝ) : EReal) = (((∑ d, T i (qcol h d) * T j (kcol h d)) * (1 / 8) : ℝ) : EReal) := by
    intro j
    rw [Finset.sum_congr rfl fun d _ => (EReal.coe_mul (T i (qcol h d)) (T j (kcol h d))).symm, Cert.Real.sum_real, EReal.coe_mul]
  have h42 : ∀ j, (val_main_v42 x a b W bq (ix3 h i j) : EReal) = (((∑ d, T i (qcol h d) * T j (kcol h d)) * (1 / 8) : ℝ) : EReal) := by
    intro j
    rw [r42, ← hl j]
    refine congrArg (· * ((1 / 8 : ℝ) : EReal)) (Finset.sum_congr rfl fun d _ => ?_)
    rw [r33, r35, h28, h28]
    rfl
  have h49 : ∀ j, (val_main_v49 x ids a b W bq (ix3 h i j) : EReal) = if grp ids i = grp ids j then (((∑ d, T i (qcol h d) * T j (kcol h d)) * (1 / 8) : ℝ) : EReal) else ⊥ := by
    intro j
    rw [r49, h42]
    exact if_congr (grp_iff ids i j) rfl rfl
  have h37 : ∀ j, (val_main_v37 x a b W bq (ix3 h j d) : EReal) = (T j (vcol h d) : EReal) := by
    intro j
    rw [r37, h28]
    rfl
  obtain ⟨M, hM⟩ := Cert.Real.max_real (fun j => grp ids i = grp ids j) (fun j => (∑ d, T i (qcol h d) * T j (kcol h d)) * (1 / 8)) i rfl
  have h52 : (val_main_v52 x ids a b W bq (ix2 h i) : EReal) = (M : EReal) := by
    rw [r52, ← hM]
    exact congrArg (fun f => max ⊥ ((Finset.univ : Finset (Fin 2048)).fold max ⊥ f)) (funext h49)
  have h56 : ∀ j, (val_main_v56 x ids a b W bq (ix3 h i j) : EReal) = Ideal.exp ((if grp ids i = grp ids j then (((∑ d, T i (qcol h d) * T j (kcol h d)) * (1 / 8) : ℝ) : EReal) else ⊥) - (M : EReal)) := by
    intro j
    rw [r56, h49, h52]
  rw [r61]
  refine Eq.trans (Finset.sum_congr rfl fun j _ => ?_) ((Cert.Real.softmax_eq (fun j => grp ids i = grp ids j) (fun j => (∑ d, T i (qcol h d) * T j (kcol h d)) * (1 / 8)) (fun j => T j (vcol h d)) M i rfl).trans ?_)
  · rw [r60, h56, h37]
    refine congrArg (fun z => Ideal.div _ z * _) (Finset.sum_congr rfl fun j _ => h56 j)
  · have hw : ∀ j, wT (tok x (row512 a) (row512 b) W (row1536 bq)) ids h i j = Ideal.exp (if grp ids i = grp ids j then (((∑ d, T i (qcol h d) * T j (kcol h d)) * (1 / 8) : ℝ) : EReal) else ⊥) := by
      intro j
      unfold wT
      rw [← hl j]
      simp only [hT, show scl = ((1 / 8 : ℝ) : EReal) from Cert.Real.bits_eighth]
    unfold yT
    simp only [hw, hT]

variable (m : (ℓ : Loc nD τ sig) → Buf (Elt Ideal) ℓ) (c : Dev nD)

/-- The reference's result on the kernel's arguments is the kernel's. -/
theorem out_same (hr : ∀ i, grp (idsM m c) i < 16) (hx : ∀ j, ∃ r : ℝ, xM m c j = (r : EReal))
    (ha : ∀ j, ∃ r : ℝ, (m ((c.tc : Thread nD τ).loc main_arg2) : Vec Ideal KernelIdeal.S512 .f32) j = (r : EReal))
    (hb : ∀ j, ∃ r : ℝ, (m ((c.tc : Thread nD τ).loc main_arg3) : Vec Ideal KernelIdeal.S512 .f32) j = (r : EReal))
    (hW : ∀ j, ∃ r : ℝ, (m ((c.tc : Thread nD τ).loc main_arg4) : Vec Ideal KernelIdeal.S1536x512 .f32) j = (r : EReal))
    (hq : ∀ j, ∃ r : ℝ, (m ((c.tc : Thread nD τ).loc main_arg5) : Vec Ideal KernelIdeal.S1536 .f32) j = (r : EReal)) :
    (val_main_v69 (F := Ideal) (xM m c) (idsM m c) (m ((c.tc : Thread nD τ).loc main_arg2)) (m ((c.tc : Thread nD τ).loc main_arg3)) (m ((c.tc : Thread nD τ).loc main_arg4)) (m ((c.tc : Thread nD τ).loc main_arg5)) (wpM m c) (bpM m c)
      : Vec Ideal KernelIdeal.S2048x512 .f32) = outV0 m c := by
  funext y
  have hy : y = ix2 (y 0) (y 1) := by
    funext k
    match k with
    | ⟨0, _⟩ => rfl
    | ⟨1, _⟩ => rfl
  rw [hy]
  refine (r69 _ _ _ _ _ _ _ _ (y 0) (y 1)).trans (Eq.trans ?_ (out_tok m c hr (y 0) (y 1)).symm)
  rw [add_comm (∑ x : Fin 512, _) _, ← add_assoc]
  refine congrArg (fun z : EReal => (xM m c (ix2 (y 0) (y 1)) : EReal) + (bpM m c (ix1 (y 1)) : EReal) + z) (Finset.sum_congr rfl fun k _ => ?_)
  exact congrArg (· * (wpM m c (ix2 (y 1) k) : EReal)) (head_same (xM m c) (idsM m c) _ _ _ _ hx ha hb hW hq _ _ _)

end Cert.Same
-- ==== Proof.lean ====
module

public import proofs.«01_k».proof.Proof.Gen.ReferenceIdeal.Run
public import proofs.«01_k».proof.Proof.Gen.ReferenceIdeal.Read
public import proofs.«01_k».proof.Defs
public import proofs.«01_k».proof.Proof.Fr
public import proofs.«01_k».proof.Proof.K.Fr
public import proofs.«01_k».proof.Proof.PreDec
public import proofs.«01_k».proof.Proof.Same
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The reference runs, its arguments end as they were, and it has no semaphore to leave raised. -/
theorem ref_frame [Cert.ReferenceIdeal.Facts] : Cert.quiescent_ReferenceIdeal := fun m g _ =>
  (θ_run _ _ _).mono (fun r h => ⟨fun c => (h c).2, sem_eq_zero_of_no_sems (by decide) r.2⟩) (Cert.ReferenceIdeal.Value.run m g)

/-- Under the precondition the kernel's result and the reference's are equal, and both leave their arguments as they were. -/
theorem same [Cert.Pre_tame.Facts] [Cert.ReferenceIdeal.Facts] : Cert.algebraic_KernelIdeal_ReferenceIdeal_pre_tame (hKernelIdeal := Cert.KernelIdeal.Gen.facts) := by
  intro m g m' g' hp hm
  refine ⟨fun c => Cert.KernelIdeal.Hand.outV0 m c, Cert.KernelIdeal.Hand.run_out m g,
    (θ_run _ _ _).mono (fun r h c => ⟨(h c).1.trans ?_, (h c).2⟩) (Cert.ReferenceIdeal.Value.run m' g')⟩
  obtain ⟨hr, hx, ha, hb, hW, hq⟩ := Cert.KernelIdeal.Hand.tame_dec _ _ _ _ _ _ _ _ (hp c)
  obtain ⟨e0, e1, e2, e3, e4, e5, e6, e7⟩ := hm c
  refine (Cert.ReferenceIdeal.Read.val_main_v69_eq m' c).trans ?_
  rw [e0, e1, e2, e3, e4, e5, e6, e7]
  exact Cert.Same.out_same m c hr hx ha hb hW hq

/-- Everything the certificate claims. -/
theorem claim : Cert.Claim := ⟨Cert.Kernel.Gen.facts, Cert.KernelIdeal.Gen.facts, Cert.ReferenceIdeal.Gen.facts, Cert.KernelIdeal.Hand.preFacts,
  fun m g _ => Cert.Kernel.Hand.frame m g,
  fun m g _ => Cert.KernelIdeal.Hand.frame m g,
  fun m g _ => Cert.KernelIdeal.Hand.frame m g,
  ref_frame,
  fun m g _ => ref_frame m g trivial,
  IdealRules.named_const.statement Cert.KernelIdeal.κ "mask" .f32 0xF2177617#32 ⊥ rfl,
  letI := Cert.ReferenceIdeal.Gen.facts
  letI := Cert.KernelIdeal.Hand.preFacts
  same⟩

end Cert.Proof

end
